-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_neighbours [hPre_distinct_neighbours : Cert.Pre_distinct_neighbours.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_neighbours [hPre_distinct_neighbours : Cert.Pre_distinct_neighbours.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_distinct_neighbours [hKernelIdeal : Cert.KernelIdeal.Facts] [hPre_distinct_neighbours : Cert.Pre_distinct_neighbours.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_neighbours m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_distinct_neighbours [hReferenceIdeal : Cert.ReferenceIdeal.Facts] [hPre_distinct_neighbours : Cert.Pre_distinct_neighbours.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_neighbours m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_distinct_neighbours [hKernelIdeal : Cert.KernelIdeal.Facts] [hReferenceIdeal : Cert.ReferenceIdeal.Facts] [hPre_distinct_neighbours : Cert.Pre_distinct_neighbours.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_neighbours m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_distinct_neighbours : Cert.Pre_distinct_neighbours.Facts),
    quiescent_Kernel (hKernel := hKernel)
    ∧ quiescent_KernelIdeal (hKernelIdeal := hKernelIdeal)
    ∧ quiescent_KernelIdeal_pre_distinct_neighbours (hKernelIdeal := hKernelIdeal) (hPre_distinct_neighbours := hPre_distinct_neighbours)
    ∧ quiescent_ReferenceIdeal (hReferenceIdeal := hReferenceIdeal)
    ∧ quiescent_ReferenceIdeal_pre_distinct_neighbours (hReferenceIdeal := hReferenceIdeal) (hPre_distinct_neighbours := hPre_distinct_neighbours)
    ∧ preserves_Kernel_KernelIdeal
    ∧ algebraic_KernelIdeal_ReferenceIdeal_pre_distinct_neighbours (hKernelIdeal := hKernelIdeal) (hReferenceIdeal := hReferenceIdeal) (hPre_distinct_neighbours := hPre_distinct_neighbours)
-- ==== Pre_distinct_neighbours.lean ====
abbrev S10000x256 : Shape := ⟨2, ![10000, 256]⟩
abbrev S256x256 : Shape := ⟨2, ![256, 256]⟩
abbrev S256 : Shape := ⟨1, ![256]⟩
abbrev S1x256 : Shape := ⟨2, ![1, 256]⟩
abbrev S_ : Shape := ⟨0, ![]⟩
abbrev S10000 : Shape := ⟨1, ![10000]⟩
abbrev S10000x1 : Shape := ⟨2, ![10000, 1]⟩
abbrev S256x10000 : Shape := ⟨2, ![256, 10000]⟩
abbrev S10000x10000 : Shape := ⟨2, ![10000, 10000]⟩
abbrev S10000x22 : Shape := ⟨2, ![10000, 22]⟩
abbrev S10000x21 : Shape := ⟨2, ![10000, 21]⟩

class Facts : Prop where
  transposes_S256x256_S256x256_1_0 : S256x256.Transposes [1, 0] S256x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  reducesTo_S10000x256_S10000_d1 : S10000x256.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  transposes_S10000x256_S256x10000_1_0 : S10000x256.Transposes [1, 0] S256x10000
  sliceFits_S10000x10000_S10000x22 : S10000x10000.Slices (fun _ => 0) S10000x22
  slices_S10000x22_S10000x21_0_1 : S10000x22.Slices ![0, 1] S10000x21
  slices_S10000x22_S10000x21_0_0 : S10000x22.Slices ![0, 0] S10000x21
  bcast_S_S10000x21 : S_.BroadcastsInDim S10000x21 (![] : Fin 0 → Fin S10000x21.rank)
  reducesTo_S10000x21_S_d0_1 : S10000x21.ReducesTo [0, 1] S_
  dot_S10000x256_S256x256_S10000x256_1_0_0_1_n_n_wf : DotDims.WF S10000x256 S256x256 S10000x256 [1] [0] [0] [1] [] []
  dot_S10000x256_S256x10000_S10000x10000_1_0_0_1_n_n_wf : DotDims.WF S10000x256 S256x10000 S10000x10000 [1] [0] [0] [1] [] []

variable [Facts]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x256_S256x10000_S10000x10000_1_0_0_1_n_n : DotDims S10000x256 S256x10000 S10000x10000 where
  lhsContracting := [1]
  rhsContracting := [0]
  lhsNonContracting := [0]
  rhsNonContracting := [1]
  lhsBatch := []
  rhsBatch := []
  wf := dot_S10000x256_S256x10000_S10000x10000_1_0_0_1_n_n_wf
def fn_relu {F : FTy → Type} [FloatOps F] (arg0 : FVec F S10000x256 .f32) : FVec F S10000x256 .f32 :=
  let cst : FVec F S_ .f32 := constant S_ .f32 0x00000000#32
  let v0 : FVec F S10000x256 .f32 := broadcastInDim S10000x256 ![] bcast_S_S10000x256 cst
  let v1 : FVec F S10000x256 .f32 := maximumf arg0 v0
  v1

def fn_norm {F : FTy → Type} [FloatOps F] (arg0 : FVec F S10000x256 .f32) : FVec F S10000x1 .f32 :=
  let v0 : FVec F S10000x256 .f32 := mulf arg0 arg0
  let cst : FVec F S_ .f32 := constant S_ .f32 0x00000000#32
  let v1 : FVec F S10000 .f32 := (fun x v => Host.reduceAdd x v reducesTo_S10000x256_S10000_d1 h_S_) v0 cst
  let v2 : FVec F S10000x1 .f32 := broadcastInDim S10000x1 ![0] bcast_S10000_S10000x1_0 v1
  let v3 : FVec F S10000x1 .f32 := Host.sqrt v2
  v3

def fn_clip {F : FTy → Type} [FloatOps F] (arg0 : FVec F S10000x1 .f32) (arg1 : FVec F S_ .f32) : FVec F S10000x1 .f32 :=
  let v0 : FVec F S_ .f32 := id arg1
  let v1 : FVec F S10000x1 .f32 := broadcastInDim S10000x1 ![] bcast_S_S10000x1 v0
  let v2 : FVec F S10000x1 .f32 := maximumf v1 arg0
  v2

def fn_part1 {F : FTy → Type} [FloatOps F] (main_v19 : IVec S10000x21 1) (main_v20 : FVec F S10000x21 .f32) : IVec S_ 1 :=
  let main_cst_0 : FVec F S_ .f32 := constant S_ .f32 0x00000000#32
  let main_v21 : FVec F S10000x21 .f32 := broadcastInDim S10000x21 ![] bcast_S_S10000x21 main_cst_0
  let main_v22 : IVec S10000x21 1 := cmpf .ole main_v20 main_v21
  let main_v23 : IVec S10000x21 1 := ori main_v19 main_v22
  let main_c : IVec S_ 1 := constantI S_ 1 1#1
  let main_v24 : IVec S_ 1 := (fun x v => Host.reduce IntOp.andi x v reducesTo_S10000x21_S_d0_1 h_S_) main_v23 main_c
  main_v24

def fn {F : FTy → Type} [FloatOps F] (main_arg0 : FVec F S10000x256 .f32) (main_arg1 : FVec F S256x256 .f32) (main_arg2 : FVec F S256 .f32) (main_arg3 : FVec F S256x256 .f32) (main_arg4 : FVec F S256 .f32) : IVec S_ 1 :=
  let main_v0 : FVec F S256x256 .f32 := (transpose S256x256 [1, 0] · transposes_S256x256_S256x256_1_0) main_arg1
  let main_v1 : FVec F S10000x256 .f32 := (fun l r => Host.dotGeneral dot_S10000x256_S256x256_S10000x256_1_0_0_1_n_n none l r) main_arg0 main_v0
  let main_v2 : FVec F S1x256 .f32 := broadcastInDim S1x256 ![1] bcast_S256_S1x256_1 main_arg2
  let main_v3 : FVec F S10000x256 .f32 := broadcastInDim S10000x256 ![0, 1] bcast_S1x256_S10000x256_0_1 main_v2
  let main_v4 : FVec F S10000x256 .f32 := addf main_v1 main_v3
  let main_v5 : FVec F S10000x256 .f32 := fn_relu (F := F) main_v4
  let main_v6 : FVec F S256x256 .f32 := (transpose S256x256 [1, 0] · transposes_S256x256_S256x256_1_0) main_arg3
  let main_v7 : FVec F S10000x256 .f32 := (fun l r => Host.dotGeneral dot_S10000x256_S256x256_S10000x256_1_0_0_1_n_n none l r) main_v5 main_v6
  let main_v8 : FVec F S1x256 .f32 := broadcastInDim S1x256 ![1] bcast_S256_S1x256_1 main_arg4
  let main_v9 : FVec F S10000x256 .f32 := broadcastInDim S10000x256 ![0, 1] bcast_S1x256_S10000x256_0_1 main_v8
  let main_v10 : FVec F S10000x256 .f32 := addf main_v7 main_v9
  let main_v11 : FVec F S10000x1 .f32 := fn_norm (F := F) main_v10
  let main_cst : FVec F S_ .f32 := constant S_ .f32 0x2B8CBCCC#32
  let main_v12 : FVec F S10000x1 .f32 := fn_clip (F := F) main_v11 main_cst
  let main_v13 : FVec F S10000x256 .f32 := broadcastInDim S10000x256 ![0, 1] bcast_S10000x1_S10000x256_0_1 main_v12
  let main_v14 : FVec F S10000x256 .f32 := Host.divf main_v10 main_v13
  let main_v15 : FVec F S256x10000 .f32 := (transpose S256x10000 [1, 0] · transposes_S10000x256_S256x10000_1_0) main_v14
  let main_v16 : FVec F S10000x10000 .f32 := (fun l r => Host.dotGeneral dot_S10000x256_S256x10000_S10000x10000_1_0_0_1_n_n none l r) main_v14 main_v15
  let main_values : FVec F S10000x22 .f32 := (fun x => (Host.topK S10000x22 1 (FloatOps.cmpfTotal .gt) x sliceFits_S10000x10000_S10000x22).1) main_v16
  let main_indices : IVec S10000x22 32 := (fun x => (Host.topK S10000x22 1 (FloatOps.cmpfTotal .gt) x sliceFits_S10000x10000_S10000x22).2) main_v16
  let main_v17 : FVec F S10000x21 .f32 := (extractStridedSlice S10000x21 ![0, 1] · slices_S10000x22_S10000x21_0_1) main_values
  let main_v18 : FVec F S10000x21 .f32 := (extractStridedSlice S10000x21 ![0, 0] · slices_S10000x22_S10000x21_0_0) main_values
  let main_v19 : IVec S10000x21 1 := cmpf .olt main_v17 main_v18
  let main_v20 : FVec F S10000x21 .f32 := (extractStridedSlice S10000x21 ![0, 1] · slices_S10000x22_S10000x21_0_1) main_values
  fn_part1 (F := F) main_v19 main_v20
-- ==== Kernel.lean ====
abbrev S10000x256 : Shape := ⟨2, ![10000, 256]⟩
abbrev S256x256 : Shape := ⟨2, ![256, 256]⟩
abbrev S256 : Shape := ⟨1, ![256]⟩
abbrev S1x256 : Shape := ⟨2, ![1, 256]⟩
abbrev S10112x256 : Shape := ⟨2, ![10112, 256]⟩
abbrev S10000 : Shape := ⟨1, ![10000]⟩
abbrev S10000x1 : Shape := ⟨2, ![10000, 1]⟩
abbrev S112x256 : Shape := ⟨2, ![112, 256]⟩
abbrev S10000x10000 : Shape := ⟨2, ![10000, 10000]⟩
abbrev S200x256 : Shape := ⟨2, ![200, 256]⟩
abbrev S200x10000 : Shape := ⟨2, ![200, 10000]⟩
abbrev S200x10112 : Shape := ⟨2, ![200, 10112]⟩
abbrev S200x128 : Shape := ⟨2, ![200, 128]⟩
abbrev S200 : Shape := ⟨1, ![200]⟩
abbrev S200x1 : Shape := ⟨2, ![200, 1]⟩
abbrev S200x16 : Shape := ⟨2, ![200, 16]⟩
abbrev S1x200x1 : Shape := ⟨3, ![1, 200, 1]⟩
abbrev S1 : Shape := ⟨1, ![1]⟩
abbrev S1x1x1 : Shape := ⟨3, ![1, 1, 1]⟩

abbrev nBuf : Space → Nat
  | .hbm => 9
  | .vmem => 11
  | .smem => 0
  | _ => 0

abbrev bufTy : (tb : Table) → Fin (tcTables nBuf tb) → BufTy
  | .hbm, ⟨0, _⟩ => ⟨S10000x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S1x256, .f32⟩
  | .hbm, ⟨6, _⟩ => ⟨S1x256, .f32⟩
  | .hbm, ⟨7, _⟩ => ⟨S10112x256, .f32⟩
  | .hbm, ⟨8, _⟩ => ⟨S10000x10000, .f32⟩
  | .local _ .vmem, ⟨0, _⟩ => ⟨S10000x256, .f32⟩
  | .local _ .vmem, ⟨1, _⟩ => ⟨S256x256, .f32⟩
  | .local _ .vmem, ⟨2, _⟩ => ⟨S1x256, .f32⟩
  | .local _ .vmem, ⟨3, _⟩ => ⟨S256x256, .f32⟩
  | .local _ .vmem, ⟨4, _⟩ => ⟨S1x256, .f32⟩
  | .local _ .vmem, ⟨5, _⟩ => ⟨S10112x256, .f32⟩
  | .local _ .vmem, ⟨6, _⟩ => ⟨S200x256, .f32⟩
  | .local _ .vmem, ⟨7, _⟩ => ⟨S200x256, .f32⟩
  | .local _ .vmem, ⟨8, _⟩ => ⟨S10112x256, .f32⟩
  | .local _ .vmem, ⟨9, _⟩ => ⟨S200x10000, .f32⟩
  | .local _ .vmem, ⟨10, _⟩ => ⟨S200x10000, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := .none

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10112x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10112x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x10000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S10000x256 : Shape := ⟨2, ![10000, 256]⟩
abbrev S256x256 : Shape := ⟨2, ![256, 256]⟩
abbrev S256 : Shape := ⟨1, ![256]⟩
abbrev S1x256 : Shape := ⟨2, ![1, 256]⟩
abbrev S_ : Shape := ⟨0, ![]⟩
abbrev S10000 : Shape := ⟨1, ![10000]⟩
abbrev S10000x1 : Shape := ⟨2, ![10000, 1]⟩
abbrev S256x10000 : Shape := ⟨2, ![256, 10000]⟩
abbrev S10000x10000 : Shape := ⟨2, ![10000, 10000]⟩
abbrev S10000x21 : Shape := ⟨2, ![10000, 21]⟩
abbrev S10000x21x1 : Shape := ⟨3, ![10000, 21, 1]⟩
abbrev S10000x21x2 : Shape := ⟨3, ![10000, 21, 2]⟩

abbrev nBuf : Space → Nat
  | .hbm => 62
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S10000x256, .f32⟩
  | .hbm, ⟨7, _⟩ => ⟨S1x256, .f32⟩
  | .hbm, ⟨8, _⟩ => ⟨S10000x256, .f32⟩
  | .hbm, ⟨9, _⟩ => ⟨S10000x256, .f32⟩
  | .hbm, ⟨10, _⟩ => ⟨S_, .f32⟩
  | .hbm, ⟨11, _⟩ => ⟨S10000x256, .f32⟩
  | .hbm, ⟨12, _⟩ => ⟨S10000x256, .f32⟩
  | .hbm, ⟨13, _⟩ => ⟨S256x256, .f32⟩
  | .hbm, ⟨14, _⟩ => ⟨S10000x256, .f32⟩
  | .hbm, ⟨15, _⟩ => ⟨S1x256, .f32⟩
  | .hbm, ⟨16, _⟩ => ⟨S10000x256, .f32⟩
  | .hbm, ⟨17, _⟩ => ⟨S10000x256, .f32⟩
  | .hbm, ⟨18, _⟩ => ⟨S10000x256, .f32⟩
  | .hbm, ⟨19, _⟩ => ⟨S_, .f32⟩
  | .hbm, ⟨20, _⟩ => ⟨S10000, .f32⟩
  | .hbm, ⟨21, _⟩ => ⟨S10000x1, .f32⟩
  | .hbm, ⟨22, _⟩ => ⟨S10000x1, .f32⟩
  | .hbm, ⟨23, _⟩ => ⟨S_, .f32⟩
  | .hbm, ⟨24, _⟩ => ⟨S_, .f32⟩
  | .hbm, ⟨25, _⟩ => ⟨S10000x1, .f32⟩
  | .hbm, ⟨26, _⟩ => ⟨S10000x1, .f32⟩
  | .hbm, ⟨27, _⟩ => ⟨S10000x256, .f32⟩
  | .hbm, ⟨28, _⟩ => ⟨S10000x256, .f32⟩
  | .hbm, ⟨29, _⟩ => ⟨S256x10000, .f32⟩
  | .hbm, ⟨30, _⟩ => ⟨S10000x10000, .f32⟩
  | .hbm, ⟨31, _⟩ => ⟨S10000x21, .f32⟩
  | .hbm, ⟨32, _⟩ => ⟨S10000x21, .i32⟩
  | .hbm, ⟨33, _⟩ => ⟨S_, .f32⟩
  | .hbm, ⟨34, _⟩ => ⟨S10000x10000, .f32⟩
  | .hbm, ⟨35, _⟩ => ⟨S10000, .i32⟩
  | .hbm, ⟨36, _⟩ => ⟨S10000x1, .i32⟩
  | .hbm, ⟨37, _⟩ => ⟨S_, .i32⟩
  | .hbm, ⟨38, _⟩ => ⟨S10000x1, .i32⟩
  | .hbm, ⟨39, _⟩ => ⟨S10000x1, .i1⟩
  | .hbm, ⟨40, _⟩ => ⟨S_, .i32⟩
  | .hbm, ⟨41, _⟩ => ⟨S10000x1, .i32⟩
  | .hbm, ⟨42, _⟩ => ⟨S10000x1, .i32⟩
  | .hbm, ⟨43, _⟩ => ⟨S10000x1, .i32⟩
  | .hbm, ⟨44, _⟩ => ⟨S_, .i32⟩
  | .hbm, ⟨45, _⟩ => ⟨S10000x21, .i32⟩
  | .hbm, ⟨46, _⟩ => ⟨S10000x21, .i1⟩
  | .hbm, ⟨47, _⟩ => ⟨S_, .i32⟩
  | .hbm, ⟨48, _⟩ => ⟨S10000x21, .i32⟩
  | .hbm, ⟨49, _⟩ => ⟨S10000x21, .i32⟩
  | .hbm, ⟨50, _⟩ => ⟨S10000x21, .i32⟩
  | .hbm, ⟨51, _⟩ => ⟨S10000x21, .i32⟩
  | .hbm, ⟨52, _⟩ => ⟨S10000x21x1, .i32⟩
  | .hbm, ⟨53, _⟩ => ⟨S10000x21x1, .i32⟩
  | .hbm, ⟨54, _⟩ => ⟨S10000x21x2, .i32⟩
  | .hbm, ⟨55, _⟩ => ⟨S_, .f32⟩
  | .hbm, ⟨56, _⟩ => ⟨S10000x21, .f32⟩
  | .hbm, ⟨57, _⟩ => ⟨S10000x10000, .f32⟩
  | .hbm, ⟨58, _⟩ => ⟨S10000x10000, .f32⟩
  | .hbm, ⟨59, _⟩ => ⟨S_, .f32⟩
  | .hbm, ⟨60, _⟩ => ⟨S10000x10000, .f32⟩
  | .hbm, ⟨61, _⟩ => ⟨S10000x10000, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_call1_v2 : Ref sig .tc := ⟨.hbm, 21, rfl⟩
abbrev main_v11 : Ref sig .tc := ⟨.hbm, 22, rfl⟩
abbrev main_cst : Ref sig .tc := ⟨.hbm, 23, rfl⟩
abbrev main_call2_v0 : Ref sig .tc := ⟨.hbm, 24, rfl⟩
abbrev main_call2_v1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_values : Ref sig .tc := ⟨.hbm, 31, rfl⟩
abbrev main_indices : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_1 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_2 : Ref sig .tc := ⟨.hbm, 44, rfl⟩
abbrev main_v25 : Ref sig .tc := ⟨.hbm, 45, rfl⟩
abbrev main_v26 : Ref sig .tc := ⟨.hbm, 46, rfl⟩
abbrev main_c_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call3_cst : Ref sig .tc := ⟨.hbm, 59, rfl⟩
abbrev main_call3_v0 : Ref sig .tc := ⟨.hbm, 60, rfl⟩
abbrev main_v37 : Ref sig .tc := ⟨.hbm, 61, rfl⟩

abbrev nD : Nat := 1
abbrev τ : Topo := Topo.v7x

variable {F : FTy → Type} [FloatOps F]
-- ==== Proof.Net.lean ====
/- The selection kernel's body written with loops: the 79 slices of a similarity block, the four-deep register
   network over 19 groups of four slices and the three last slices, the twenty removals, the threshold pass over
   the slices and the fallback. `cc1_eq` says that the printed body is this program. -/
module

public import proofs.«01_k».proof.Proof.Gen.KernelIdeal.Skeleton

@[expose] public section

noncomputable section

namespace Cert.KernelIdeal.Net

open Idealize.ShloMosaic Idealize.SL.Sem Cert.KernelIdeal.Gen

variable {F : FTy → Type} [FloatOps F]

/-- One 128-column slice of a block of 200 rows. -/
abbrev T (F : FTy → Type) : Type := FVec F S200x128 .f32

/-- One value per row. -/
abbrev C (F : FTy → Type) : Type := FVec F S200x1 .f32

/-- The four registers of every lane, largest first. -/
structure Regs (F : FTy → Type) where
  a : T F
  b : T F
  c : T F
  d : T F

theorem slices (k : ℕ) (hk : k < 79) : S200x10112.Slices ![0, 128 * k] S200x128 :=
  ⟨rfl, fun a => by fin_cases a <;> simp [Shape.size] <;> omega⟩

/-- The literal the kernel uses below every similarity. -/
def neg : T F := broadcast S200x128 (Scalar.ofBits .f32 0xFF61B1E6#32)

/-- The lanes of the last slice that are real columns. -/
def tail : IVec S200x128 1 := k1_pay7

/-- Slice `k` of the similarities. -/
def raw (v6 : FVec F S200x10112 .f32) (k : ℕ) (hk : k < 79) : T F :=
  extractStridedSlice S200x128 ![0, 128 * k] v6 (slices k hk)

/-- The last slice, its padding columns at the low literal. -/
def last (v6 : FVec F S200x10112 .f32) : T F := select tail (raw v6 78 (by decide)) neg

/-- Four slices sorted. -/
def sort4 (s0 s1 s2 s3 : T F) : Regs F :=
  let hi1 := maximumf s0 s1
  let lo1 := minimumf s0 s1
  let hi2 := maximumf s2 s3
  let lo2 := minimumf s2 s3
  let mid1 := minimumf hi1 hi2
  let mid2 := maximumf lo1 lo2
  ⟨maximumf hi1 hi2, maximumf mid1 mid2, minimumf mid1 mid2, minimumf lo1 lo2⟩

/-- The four largest of two sorted quadruples, sorted. -/
def merge (M B : Regs F) : Regs F :=
  let c1 := maximumf M.a B.d
  let c2 := maximumf M.b B.c
  let c3 := maximumf M.c B.b
  let c4 := maximumf M.d B.a
  let x1 := maximumf c1 c3
  let x3 := minimumf c1 c3
  let x2 := maximumf c2 c4
  let x4 := minimumf c2 c4
  ⟨maximumf x1 x2, minimumf x1 x2, maximumf x3 x4, minimumf x3 x4⟩

/-- One more slice put into the registers. -/
def insert (M : Regs F) (s : T F) : Regs F :=
  let s1 := minimumf M.a s
  let s2 := minimumf M.b s1
  let s3 := minimumf M.c s2
  ⟨maximumf M.a s, maximumf M.b s1, maximumf M.c s2, maximumf M.d s3⟩

/-- Group `g`: slices `4g … 4g+3` sorted. -/
def group (v6 : FVec F S200x10112 .f32) (g : ℕ) (hg : g < 19) : Regs F :=
  sort4 (raw v6 (4 * g) (by omega)) (raw v6 (4 * g + 1) (by omega)) (raw v6 (4 * g + 2) (by omega)) (raw v6 (4 * g + 3) (by omega))

/-- The registers after groups `0 … g`. -/
def groups (v6 : FVec F S200x10112 .f32) : (g : ℕ) → g < 19 → Regs F
  | 0, h => group v6 0 h
  | g + 1, h => merge (groups v6 g (by omega)) (group v6 (g + 1) h)

/-- The registers after every slice. -/
def regs (v6 : FVec F S200x10112 .f32) : Regs F :=
  insert (insert (insert (groups v6 18 (by decide)) (raw v6 76 (by decide))) (raw v6 77 (by decide))) (last v6)

/-- Each row's largest first register. -/
def top (M : Regs F) : C F :=
  shapeCast S200x1 (multiReduction .maximumf [1] S200 M.a 0xFF800000#32 reduces_S200x128_S200 (.inl rfl) rfl) shapeCasts_S200_S200x1

/-- The largest value removed from every lane that holds it first. -/
def pop (M : Regs F) : Regs F :=
  let hit := cmpf .oeq M.a (broadcastTo S200x128 (top M) broadcasts_S200x1_S200x128)
  ⟨select hit M.b M.a, select hit M.c M.b, select hit M.d M.c, select hit neg M.d⟩

/-- `n` removals. -/
def pops : ℕ → Regs F → Regs F
  | 0, M => M
  | n + 1, M => pop (pops n M)

/-- The value left on top after twenty removals. -/
def mval (v6 : FVec F S200x10112 .f32) : C F := top (pops 20 (regs v6))

/-- The threshold: that value, at least the small positive literal. -/
def thr (v6 : FVec F S200x10112 .f32) : C F := maximumf (mval v6) (broadcast S200x1 (Scalar.ofBits .f32 0x006CE3EE#32))

/-- Which lanes of a slice reach the threshold. -/
def keep (t : C F) (s : T F) : IVec S200x128 1 := cmpf .oge s (broadcastTo S200x128 t broadcasts_S200x1_S200x128)

/-- One where a lane is kept, zero elsewhere. -/
def ind (t : C F) (s : T F) : T F :=
  select (keep t s) (broadcast S200x128 (Scalar.ofBits .f32 0x3F800000#32)) (broadcast S200x128 (Scalar.ofBits .f32 0x00000000#32))

/-- A slice with the lanes that are not kept at zero. -/
def cut (t : C F) (s : T F) : T F := select (keep t s) s (broadcast S200x128 (Scalar.ofBits .f32 0x00000000#32))

theorem inb (k : ℕ) (hk : k < 78) : ∀ a, (![0, 128 * k] : Fin 2 → Nat) a + S200x128.size a ≤ S200x10000.size a := by
  intro a
  fin_cases a <;> simp [Shape.size] <;> omega

/-- The pass over `n` slices from slice `k`: each cut slice stored, the kept lanes counted. -/
def pass (arg3 : Memref sig .tc .vmem S200x10000 .f32) (v6 : FVec F S200x10112 .f32) (t : C F) :
    (n k : ℕ) → n + k ≤ 78 → T F → Prog (TpuEff nD τ sig (Elt F) Λ₀ .tc) (T F)
  | 0, _, _, acc => pure acc
  | n + 1, k, h, acc =>
    .op (.load arg3 (Rect.unit (s := S200x10000) ![0, 128 * k] S200x128.size (inb k (by omega))).toLoadRect (View.loadsAt_vmem h_S200x128)) fun _ =>
    .op (.store arg3 (Rect.unit (s := S200x10000) ![0, 128 * k] S200x128.size (inb k (by omega))) (cut t (raw v6 k (by omega))) Finset.univ (View.stores_vmem_bits_univ h_S200x128 rfl) (.inl rfl)) fun _ =>
    pass arg3 v6 t n (k + 1) (by omega) (addf acc (ind t (raw v6 k (by omega))))

/-- The similarities with the padding columns at the low literal. -/
def wide (v6 : FVec F S200x10112 .f32) : FVec F S200x10112 .f32 :=
  select (cmpi .slt (iota .tc S200x10112 32 [1] iota_S200x10112_d1_w32) (broadcast S200x10112 10000#32)) v6
    (broadcast S200x10112 (Scalar.ofBits .f32 0xFF61B1E6#32))

/-- Each row's maximum. -/
def rmax (x : FVec F S200x10112 .f32) : C F :=
  shapeCast S200x1 (multiReduction .maximumf [1] S200 x 0xFF800000#32 reduces_S200x10112_S200 (.inl rfl) rfl) shapeCasts_S200_S200x1

/-- Each row's maximum below a value. -/
def below (x : FVec F S200x10112 .f32) (t : C F) : C F :=
  rmax (select (cmpf .olt x (broadcastTo S200x10112 t broadcasts_S200x1_S200x10112)) x (broadcast S200x10112 (Scalar.ofBits .f32 0xFF61B1E6#32)))

/-- Each row's `n`-th next smaller value. -/
def descend (x : FVec F S200x10112 .f32) : ℕ → C F
  | 0 => rmax x
  | n + 1 => below x (descend x n)

/-- What the fallback stores. -/
def fallback (v6 : FVec F S200x10112 .f32) : FVec F S200x10000 .f32 :=
  extractStridedSlice S200x10000 ![0, 0]
    (select (andi (cmpf .oge (wide v6) (broadcastTo S200x10112 (descend (wide v6) 20) broadcasts_S200x1_S200x10112))
        (cmpf .ogt (wide v6) (broadcast S200x10112 (Scalar.ofBits .f32 0x00000000#32))))
      (wide v6) (broadcast S200x10112 (Scalar.ofBits .f32 0x00000000#32))) slices_S200x10112_o0_0_S200x10000

/-- The branch word: one when some row keeps more than 21 lanes or has a value on top below the small literal. -/
def flag (m : C F) (acc : T F) : BitVec 1 :=
  Scalar.cmpi .ne ((Scalar.extui (Scalar.cmpf .ogt (k1_pay1 m acc) (Scalar.ofBits .f32 0x00000000#32)) : BitVec 32)) 0#32

/-- The counts after `n` slices from slice `k`. -/
def counts (v6 : FVec F S200x10112 .f32) (t : C F) : (n k : ℕ) → n + k ≤ 78 → T F → T F
  | 0, _, _, acc => acc
  | n + 1, k, h, acc => counts v6 t n (k + 1) (by omega) (addf acc (ind t (raw v6 k (by omega))))

/-- The counts over every slice. -/
def total (v6 : FVec F S200x10112 .f32) : T F :=
  addf (counts v6 (thr v6) 78 0 (by decide) (broadcast S200x128 (Scalar.ofBits .f32 0x00000000#32))) (ind (thr v6) (last v6))

/-- The last cut slice's real columns. -/
def rest (v6 : FVec F S200x10112 .f32) : FVec F S200x16 .f32 :=
  extractStridedSlice S200x16 ![0, 0] (cut (thr v6) (last v6)) slices_S200x128_o0_0_S200x16

/-- The whole body. -/
def body (arg1 : Memref sig .tc .vmem S200x256 .f32) (arg2 : Memref sig .tc .vmem S10112x256 .f32) (arg3 : Memref sig .tc .vmem S200x10000 .f32) :
    Prog (TpuEff nD τ sig (Elt F) Λ₀ .tc) PUnit :=
  .op (.load arg1 (Rect.unit (s := S200x256) ![0, 0] S200x256.size inb_S200x256_S200x256_0_0).toLoadRect (View.loadsAt_vmem h_S200x256)) fun v0 =>
  .op (.load arg2 (Rect.unit (s := S10112x256) ![0, 0] S10112x256.size inb_S10112x256_S10112x256_0_0).toLoadRect (View.loadsAt_vmem h_S10112x256)) fun v2 =>
  (pass arg3 (k1_pay6 v0 v2) (thr (k1_pay6 v0 v2)) 78 0 (by decide) (broadcast S200x128 (Scalar.ofBits .f32 0x00000000#32))).bind fun acc =>
  .op (.load arg3 (Rect.unit (s := S200x10000) ![0, 9984] S200x16.size inb_S200x10000_S200x16_0_9984).toLoadRect (View.loadsAt_vmem h_S200x16)) fun _ =>
  .op (.store arg3 (Rect.unit (s := S200x10000) ![0, 9984] S200x16.size inb_S200x10000_S200x16_0_9984) (rest (k1_pay6 v0 v2)) Finset.univ (View.stores_vmem_bits_univ h_S200x16 rfl) (.inl rfl)) fun _ =>
  if flag (mval (k1_pay6 v0 v2)) (addf acc (ind (thr (k1_pay6 v0 v2)) (last (k1_pay6 v0 v2)))) = 1#1 then
    .op (.load arg3 (Rect.unit (s := S200x10000) ![0, 0] S200x10000.size inb_S200x10000_S200x10000_0_0).toLoadRect (View.loadsAt_vmem h_S200x10000)) fun _ =>
    .op (.store arg3 (Rect.unit (s := S200x10000) ![0, 0] S200x10000.size inb_S200x10000_S200x10000_0_0) (fallback (k1_pay6 v0 v2)) Finset.univ (View.stores_vmem_bits_univ h_S200x10000 rfl) (.inl rfl)) fun _ =>
    .ret ⟨⟩
  else .ret ⟨⟩

set_option maxRecDepth 100000 in
/-- The printed body is this program. -/
theorem cc1_eq (i : grid1.Coords) (arg1 : Memref sig .tc .vmem S200x256 .f32) (harg1 : arg1.IsWhole) (arg2 : Memref sig .tc .vmem S10112x256 .f32) (harg2 : arg2.IsWhole) (arg3 : Memref sig .tc .vmem S200x10000 .f32) (harg3 : arg3.IsWhole) :
    cc1__topk_kernel (F := F) i arg1 harg1 arg2 harg2 arg3 harg3 = body arg1 arg2 arg3 := rfl

end Cert.KernelIdeal.Net

end
-- ==== Proof.Body.lean ====
module

public import proofs.«01_k».proof.Proof.Net
public import proofs.«01_k».proof.Proof.Gen.KernelIdeal.Regions
public import proofs.«01_k».proof.Proof.Gen.KernelIdeal.Points
public import Idealize.ShloMosaic.Lib.VecWindow
public import Idealize.ShloMosaic.Lib.Tactic
public import Idealize.ShloMosaic.Lib.Pipeline.RegionsLoop

@[expose] public section

noncomputable section

namespace Cert.KernelIdeal.Frame

open Cert.KernelIdeal.Gen Cert.KernelIdeal.Net
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The algebra: the pipeline library's alone. -/
abbrev UU : Type := UR sig nD τ

local notation "𝕄" => MT nD τ sig Unit (Elt F) ℕ UU ℕ

/-- A memref's buffer on core `c`: its contents type, and it held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A value written over a rectangle of the block. -/
def put (c : Dev nD) (M : Memref sig .tc .vmem S200x10000 .f32) (r : Rect S200x10000) (f : Bf (F := F) c M) (w : r.shape.Idx → F .f32) : Bf (F := F) c M :=
  View.write (Elt F) (M.access r) f w Finset.univ

/-- The block's contents after the pass: `n` cut slices from slice `k` written over `f`. -/
def filled (c : Dev nD) (M : Memref sig .tc .vmem S200x10000 .f32) (v6 : FVec F S200x10112 .f32) (t : C F) :
    (n k : ℕ) → n + k ≤ 78 → Bf (F := F) c M → Bf (F := F) c M
  | 0, _, _, f => f
  | n + 1, k, h, f => filled c M v6 t n (k + 1) (by omega)
      (put c M (Rect.unit (s := S200x10000) ![0, 128 * k] S200x128.size (inb k (by omega))) f (cut t (raw v6 k (by omega))))

theorem pass_run (c : Dev nD) (M : Memref sig .tc .vmem S200x10000 .f32) (v6 : FVec F S200x10112 .f32) (t : C F) (E : Set ℕ) :
    ∀ (n k : ℕ) (h : n + k ≤ 78) (acc : T F) (f : Bf (F := F) c M) (Q : T F → sProp 𝕄),
      iprop(pt c M f ∗ (pt c M (filled c M v6 t n k h f) -∗ Q (counts v6 t n k h acc)))
        ⊢ wp frame (wpE (defs₀ (F := F)) Variants.none c none) E (pass M v6 t n k h acc) Q := by
  intro n
  induction n with
  | zero =>
    intro k h acc f Q
    iintro ⟨H, Hk⟩
    unfold pass counts filled
    sl_step
    iapply Hk $$ H
  | succ n ih =>
    intro k h acc f Q
    iintro ⟨H, Hk⟩
    unfold pass counts filled
    sl_step
    sl_step
    iapply ih
    isplitl [H]; · iexact H
    iexact Hk

/-- The block's contents after the body. -/
def result (c : Dev nD) (M : Memref sig .tc .vmem S200x10000 .f32) (v6 : FVec F S200x10112 .f32) (f : Bf (F := F) c M) : Bf (F := F) c M :=
  let f₁ := put c M (Rect.unit (s := S200x10000) ![0, 9984] S200x16.size inb_S200x10000_S200x16_0_9984)
    (filled c M v6 (thr v6) 78 0 (by decide) f) (rest v6)
  if flag (mval v6) (total v6) = 1#1 then
    put c M (Rect.unit (s := S200x10000) ![0, 0] S200x10000.size inb_S200x10000_S200x10000_0_0) f₁ (fallback v6)
  else f₁

theorem topk_run (c : Dev nD) (i : grid1.Coords) (M1 : Memref sig .tc .vmem S200x256 .f32) (h1 : M1.IsWhole) (M2 : Memref sig .tc .vmem S10112x256 .f32) (h2 : M2.IsWhole)
    (M3 : Memref sig .tc .vmem S200x10000 .f32) (h3 : M3.IsWhole)
    (x : FVec F S200x256 .f32) (y : FVec F S10112x256 .f32) (f1 : Bf (F := F) c M1) (f2 : Bf (F := F) c M2) (hx : M1.view.read (Elt F) f1 = x) (hy : M2.view.read (Elt F) f2 = y)
    (f : Bf (F := F) c M3) (E : Set ℕ) (Q : PUnit → sProp 𝕄) :
    iprop(pt c M1 f1 ∗ pt c M2 f2 ∗ pt c M3 f ∗ (iprop(pt c M1 f1 ∗ pt c M2 f2 ∗ pt c M3 (result c M3 (k1_pay6 x y) f)) -∗ Q ⟨⟩))
      ⊢ wp frame (wpE (defs₀ (F := F)) Variants.none c none) E (cc1__topk_kernel i M1 h1 M2 h2 M3 h3) Q := by
  rw [cc1_eq]
  iintro ⟨H1, H2, H3, Hk⟩
  unfold Net.body
  sl_step
  sl_step
  rw [View.readAt_full (s := S200x256), View.readAt_full (s := S10112x256), hx, hy]
  rw [show ∀ (p : Prog (TpuEff nD τ sig (Elt F) Λ₀ .tc) (T F)) (k : T F → Prog (TpuEff nD τ sig (Elt F) Λ₀ .tc) PUnit), p.bind k = p >>= k from fun _ _ => rfl, wp_bind]
  iapply pass_run
  isplitl [H3]; · iexact H3
  iintro H3
  sl_step
  sl_step
  rw [show addf (counts (k1_pay6 x y) (thr (k1_pay6 x y)) 78 0 total._proof_1 (broadcast S200x128 (Scalar.ofBits .f32 0x00000000#32))) (ind (thr (k1_pay6 x y)) (last (k1_pay6 x y))) = total (k1_pay6 x y) from rfl]
  by_cases hb : flag (mval (k1_pay6 x y)) (total (k1_pay6 x y)) = 1#1
  · rw [if_pos hb]
    sl_step
    sl_step
    sl_step
    iapply Hk
    isplitl [H1]; · iexact H1
    isplitl [H2]; · iexact H2
    unfold result
    rw [if_pos hb]
    iexact H3
  · rw [if_neg hb]
    sl_step
    iapply Hk
    isplitl [H1]; · iexact H1
    isplitl [H2]; · iexact H2
    unfold result
    rw [if_neg hb]
    iexact H3

end Cert.KernelIdeal.Frame

end
-- ==== Proof.Reads.lean ====
module

public import proofs.«01_k».proof.Proof.Body
public import Idealize.ShloMosaic.Lib.Writes
public import Idealize.ShloMosaic.Lib.ValueIdx

@[expose] public section

noncomputable section

namespace Cert.KernelIdeal.Frame

open Cert.KernelIdeal.Gen Cert.KernelIdeal.Net
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section block

variable (c : Dev nD) (M : Memref sig .tc .vmem S200x10000 .f32)

/-- A block's contents, read as values. -/
abbrev rd (f : Bf (F := F) c M) : FVec F S200x10000 .f32 := M.view.read (Elt F) f

theorem rd_put_miss (r : Rect S200x10000) (f : Bf (F := F) c M) (w : r.shape.Idx → F .f32) (y : S200x10000.Idx) (n : ℕ)
    (hst : r.stride 1 = 1) (hn : r.size 1 = n) (h : (y 1).val < r.off 1 ∨ r.off 1 + n ≤ (y 1).val) :
    rd c M (put c M r f w) y = rd c M f y :=
  View.read_writes_cons_miss_of_axis M.view f ⟨r, w⟩ [] y 1 (r.off 1) n rfl hst hn h

theorem rd_put_hit (r : Rect S200x10000) (f : Bf (F := F) c M) (w : r.shape.Idx → F .f32) (y : S200x10000.Idx) (x : r.shape.Idx)
    (hx : ∀ a, (y a).val = r.off a + r.stride a * (x a).val) : rd c M (put c M r f w) y = w x :=
  View.read_writes_cons_hit_of_coords M.view f r w [] x y hx

theorem filled_miss (v6 : FVec F S200x10112 .f32) (t : C F) (y : S200x10000.Idx) :
    ∀ (n k : ℕ) (h : n + k ≤ 78) (f : Bf (F := F) c M), (y 1).val < 128 * k →
      rd c M (filled c M v6 t n k h f) y = rd c M f y := by
  intro n
  induction n with
  | zero => intro k h f _; rfl
  | succ n ih =>
    intro k h f hy
    unfold filled
    rw [ih _ _ _ (by omega)]
    exact rd_put_miss c M _ f _ y 128 rfl rfl (.inl hy)

theorem filled_hit (v6 : FVec F S200x10112 .f32) (t : C F) (y : S200x10000.Idx) (q : ℕ) (hq : q < 78) (l : Fin 128) (hy : (y 1).val = 128 * q + l.val) :
    ∀ (n k : ℕ) (h : n + k ≤ 78) (f : Bf (F := F) c M), k ≤ q → q < k + n →
      rd c M (filled c M v6 t n k h f) y = cut t (raw v6 q (by omega)) (ix2 (y 0) l) := by
  intro n
  induction n with
  | zero => intro k h f h1 h2; omega
  | succ n ih =>
    intro k h f h1 h2
    unfold filled
    rcases Nat.eq_or_lt_of_le h1 with e | e
    · subst e
      rw [filled_miss _ _ _ _ _ _ _ _ _ (by have := l.isLt; omega)]
      refine rd_put_hit c M (Rect.unit (s := S200x10000) ![0, 128 * k] S200x128.size (inb k (by omega))) f _ y (ix2 (n0 := 200) (n1 := 128) (y 0) l) fun a => ?_
      fin_cases a
      · show _ = 0 + 1 * (y 0).val
        simp
      · show (y 1).val = 128 * k + 1 * l.val
        omega
    · exact ih _ _ _ e (by omega)

end block

/-- The block when the pass stands: the cut slices side by side. -/
def passed (v6 : FVec F S200x10112 .f32) : FVec F S200x10000 .f32 := fun y =>
  if h : (y 1).val < 9984 then
    cut (thr v6) (raw v6 ((y 1).val / 128) (by omega)) (ix2 (y 0) ⟨(y 1).val % 128, Nat.mod_lt _ (by decide)⟩)
  else rest v6 (ix2 (y 0) ⟨(y 1).val - 9984, by have : (y 1).val < 10000 := (y 1).isLt; omega⟩)

/-- The block the body leaves. -/
def out (v6 : FVec F S200x10112 .f32) : FVec F S200x10000 .f32 :=
  if flag (mval v6) (total v6) = 1#1 then fallback v6 else passed v6

theorem rd_result (c : Dev nD) (M : Memref sig .tc .vmem S200x10000 .f32) (v6 : FVec F S200x10112 .f32) (f : Bf (F := F) c M) :
    rd c M (result c M v6 f) = out v6 := by
  unfold result out
  by_cases hb : flag (mval v6) (total v6) = 1#1
  · rw [if_pos hb, if_pos hb]
    funext y
    refine rd_put_hit c M (Rect.unit (s := S200x10000) ![0, 0] S200x10000.size inb_S200x10000_S200x10000_0_0) _ (fallback v6) y y fun a => ?_
    fin_cases a
    · show (y 0).val = 0 + 1 * (y 0).val
      omega
    · show (y 1).val = 0 + 1 * (y 1).val
      omega
  · rw [if_neg hb, if_neg hb]
    funext y
    unfold passed
    by_cases hy : (y 1).val < 9984
    · rw [dif_pos hy, rd_put_miss c M _ _ _ y 16 rfl rfl (.inl hy)]
      exact filled_hit c M v6 _ y _ (by omega) ⟨(y 1).val % 128, Nat.mod_lt _ (by decide)⟩ (by show _ = _ + (y 1).val % 128; omega) 78 0 _ f (by omega) (by omega)
    · rw [dif_neg hy]
      refine rd_put_hit c M (Rect.unit (s := S200x10000) ![0, 9984] S200x16.size inb_S200x10000_S200x16_0_9984) _ (rest v6) y
        (ix2 (n0 := 200) (n1 := 16) (y 0) ⟨(y 1).val - 9984, by have : (y 1).val < 10000 := (y 1).isLt; omega⟩) fun a => ?_
      fin_cases a
      · show (y 0).val = 0 + 1 * (y 0).val
        omega
      · show (y 1).val = 9984 + 1 * ((y 1).val - 9984)
        omega

/-- The embedding region's block: the embedding's rows, and under them rows of zeros. -/
def emb (v0 : FVec F S10000x256 .f32) (v1 : FVec F S256x256 .f32) (v5 : FVec F S1x256 .f32) (v11 : FVec F S256x256 .f32) (v15 : FVec F S1x256 .f32) :
    FVec F S10112x256 .f32 := fun y =>
  if h : (y 0).val < 10000 then k0_pay1 v0 v1 v5 v11 v15 (ix2 ⟨(y 0).val, h⟩ (y 1))
  else k0_pay2 (F := F) (ix2 ⟨(y 0).val - 10000, by have : (y 0).val < 10112 := (y 0).isLt; omega⟩ (y 1))

/-- The two stores of the embedding region's body. -/
def stored (c : Dev nD) (M : Memref sig .tc .vmem S10112x256 .f32) (u : FVec F S10000x256 .f32) (f : Bf (F := F) c M) : Bf (F := F) c M :=
  View.write (Elt F) (M.access (Rect.unit (s := S10112x256) ![10000, 0] S112x256.size inb_S10112x256_S112x256_10000_0))
    (View.write (Elt F) (M.access (Rect.unit (s := S10112x256) ![0, 0] S10000x256.size inb_S10112x256_S10000x256_0_0)) f u Finset.univ)
    (k0_pay2 (F := F)) Finset.univ

theorem rd_stored (c : Dev nD) (M : Memref sig .tc .vmem S10112x256 .f32) (v0 : FVec F S10000x256 .f32) (v1 : FVec F S256x256 .f32) (v5 : FVec F S1x256 .f32)
    (v11 : FVec F S256x256 .f32) (v15 : FVec F S1x256 .f32) (f : Bf (F := F) c M) :
    M.view.read (Elt F) (stored c M (k0_pay1 v0 v1 v5 v11 v15) f) = emb v0 v1 v5 v11 v15 := by
  funext y
  have h10112 : (y 0).val < 10112 := (y 0).isLt
  unfold emb
  by_cases h : (y 0).val < 10000
  · rw [dif_pos h]
    refine (View.read_writes_cons_miss_of_axis M.view f
      ⟨Rect.unit (s := S10112x256) ![10000, 0] S112x256.size inb_S10112x256_S112x256_10000_0, k0_pay2 (F := F)⟩
      [⟨Rect.unit (s := S10112x256) ![0, 0] S10000x256.size inb_S10112x256_S10000x256_0_0, k0_pay1 v0 v1 v5 v11 v15⟩] y 0 10000 112 rfl rfl rfl (.inl h)).trans ?_
    refine View.read_writes_cons_hit_of_coords M.view f (Rect.unit (s := S10112x256) ![0, 0] S10000x256.size inb_S10112x256_S10000x256_0_0) (k0_pay1 v0 v1 v5 v11 v15) [] (ix2 (n0 := 10000) (n1 := 256) ⟨(y 0).val, h⟩ (y 1)) y fun a => ?_
    fin_cases a
    · show (y 0).val = 0 + 1 * (y 0).val
      omega
    · show (y 1).val = 0 + 1 * (y 1).val
      omega
  · rw [dif_neg h]
    refine View.read_writes_cons_hit_of_coords M.view f (Rect.unit (s := S10112x256) ![10000, 0] S112x256.size inb_S10112x256_S112x256_10000_0) (k0_pay2 (F := F))
      [⟨Rect.unit (s := S10112x256) ![0, 0] S10000x256.size inb_S10112x256_S10000x256_0_0, k0_pay1 v0 v1 v5 v11 v15⟩]
      (ix2 (n0 := 112) (n1 := 256) ⟨(y 0).val - 10000, by omega⟩ (y 1)) y fun a => ?_
    fin_cases a
    · show (y 0).val = 10000 + 1 * ((y 0).val - 10000)
      omega
    · show (y 1).val = 0 + 1 * (y 1).val
      omega

/-- The embedding region's body, an operation at a time. -/
def embBody (arg0 : Memref sig .tc .vmem S10000x256 .f32) (arg1 : Memref sig .tc .vmem S256x256 .f32) (arg2 : Memref sig .tc .vmem S1x256 .f32)
    (arg3 : Memref sig .tc .vmem S256x256 .f32) (arg4 : Memref sig .tc .vmem S1x256 .f32) (arg5 : Memref sig .tc .vmem S10112x256 .f32) :
    Prog (TpuEff nD τ sig (Elt F) Λ₀ .tc) PUnit :=
  .op (.load arg0 (Rect.unit (s := S10000x256) ![0, 0] S10000x256.size inb_S10000x256_S10000x256_0_0).toLoadRect (View.loadsAt_vmem h_S10000x256)) fun (v0 : FVec F S10000x256 .f32) =>
  .op (.load arg1 (Rect.unit (s := S256x256) ![0, 0] S256x256.size inb_S256x256_S256x256_0_0).toLoadRect (View.loadsAt_vmem h_S256x256)) fun (v1 : FVec F S256x256 .f32) =>
  .op (.load arg2 (Rect.unit (s := S1x256) ![0, 0] S1x256.size inb_S1x256_S1x256_0_0).toLoadRect (View.loadsAt_vmem h_S1x256)) fun (v5 : FVec F S1x256 .f32) =>
  .op (.load arg3 (Rect.unit (s := S256x256) ![0, 0] S256x256.size inb_S256x256_S256x256_0_0).toLoadRect (View.loadsAt_vmem h_S256x256)) fun (v11 : FVec F S256x256 .f32) =>
  .op (.load arg4 (Rect.unit (s := S1x256) ![0, 0] S1x256.size inb_S1x256_S1x256_0_0).toLoadRect (View.loadsAt_vmem h_S1x256)) fun (v15 : FVec F S1x256 .f32) =>
  .op (.load arg5 (Rect.unit (s := S10112x256) ![0, 0] S10000x256.size inb_S10112x256_S10000x256_0_0).toLoadRect (View.loadsAt_vmem h_S10000x256)) fun _ =>
  .op (.store arg5 (Rect.unit (s := S10112x256) ![0, 0] S10000x256.size inb_S10112x256_S10000x256_0_0) (k0_pay1 v0 v1 v5 v11 v15) Finset.univ (View.stores_vmem_bits_univ h_S10000x256 rfl) (.inl rfl)) fun _ =>
  .op (.load arg5 (Rect.unit (s := S10112x256) ![10000, 0] S112x256.size inb_S10112x256_S112x256_10000_0).toLoadRect (View.loadsAt_vmem h_S112x256)) fun _ =>
  .op (.store arg5 (Rect.unit (s := S10112x256) ![10000, 0] S112x256.size inb_S10112x256_S112x256_10000_0) (k0_pay2 (F := F)) Finset.univ (View.stores_vmem_bits_univ h_S112x256 rfl) (.inl rfl)) fun _ =>
  .ret ⟨⟩

set_option maxRecDepth 65536 in
theorem cc0_eq (M0 : Memref sig .tc .vmem S10000x256 .f32) (h0 : M0.IsWhole) (M1 : Memref sig .tc .vmem S256x256 .f32) (h1 : M1.IsWhole)
    (M2 : Memref sig .tc .vmem S1x256 .f32) (h2 : M2.IsWhole) (M3 : Memref sig .tc .vmem S256x256 .f32) (h3 : M3.IsWhole)
    (M4 : Memref sig .tc .vmem S1x256 .f32) (h4 : M4.IsWhole) (M5 : Memref sig .tc .vmem S10112x256 .f32) (h5 : M5.IsWhole) :
    cc0__emb_kernel (F := F) M0 h0 M1 h1 M2 h2 M3 h3 M4 h4 M5 h5 = embBody M0 M1 M2 M3 M4 M5 := rfl

theorem emb_run (c : Dev nD) (M0 : Memref sig .tc .vmem S10000x256 .f32) (h0 : M0.IsWhole) (M1 : Memref sig .tc .vmem S256x256 .f32) (h1 : M1.IsWhole)
    (M2 : Memref sig .tc .vmem S1x256 .f32) (h2 : M2.IsWhole) (M3 : Memref sig .tc .vmem S256x256 .f32) (h3 : M3.IsWhole)
    (M4 : Memref sig .tc .vmem S1x256 .f32) (h4 : M4.IsWhole) (M5 : Memref sig .tc .vmem S10112x256 .f32) (h5 : M5.IsWhole)
    (x0 : FVec F S10000x256 .f32) (x1 : FVec F S256x256 .f32) (x2 : FVec F S1x256 .f32) (x3 : FVec F S256x256 .f32) (x4 : FVec F S1x256 .f32)
    (f0 : Bf (F := F) c M0) (f1 : Bf (F := F) c M1) (f2 : Bf (F := F) c M2) (f3 : Bf (F := F) c M3) (f4 : Bf (F := F) c M4) (f5 : Bf (F := F) c M5)
    (e0 : M0.view.read (Elt F) f0 = x0) (e1 : M1.view.read (Elt F) f1 = x1) (e2 : M2.view.read (Elt F) f2 = x2)
    (e3 : M3.view.read (Elt F) f3 = x3) (e4 : M4.view.read (Elt F) f4 = x4) (E : Set ℕ) (Q : PUnit → sProp 𝕄) :
    iprop(pt c M0 f0 ∗ pt c M1 f1 ∗ pt c M2 f2 ∗ pt c M3 f3 ∗ pt c M4 f4 ∗ pt c M5 f5 ∗
        (iprop(pt c M0 f0 ∗ pt c M1 f1 ∗ pt c M2 f2 ∗ pt c M3 f3 ∗ pt c M4 f4 ∗ pt c M5 (stored c M5 (k0_pay1 x0 x1 x2 x3 x4) f5)) -∗ Q ⟨⟩))
      ⊢ wp frame (wpE (defs₀ (F := F)) Variants.none c none) E (cc0__emb_kernel M0 h0 M1 h1 M2 h2 M3 h3 M4 h4 M5 h5) Q := by
  rw [cc0_eq]
  iintro ⟨H0, H1, H2, H3, H4, H5, Hk⟩
  unfold embBody
  iterate 9 sl_step
  rw [View.readAt_full (s := S10000x256), View.readAt_full (s := S256x256) M1.view, View.readAt_full (s := S1x256) M2.view, View.readAt_full (s := S256x256) M3.view, View.readAt_full (s := S1x256) M4.view,
    e0, e1, e2, e3, e4]
  sl_step
  iapply Hk
  isplitl [H0]; · iexact H0
  isplitl [H1]; · iexact H1
  isplitl [H2]; · iexact H2
  isplitl [H3]; · iexact H3
  isplitl [H4]; · iexact H4
  iexact H5

end Cert.KernelIdeal.Frame

end
-- ==== Proof.Data.lean ====
module

public import proofs.«01_k».proof.Proof.Reads
public import Idealize.ShloMosaic.Lib.Pipeline.Frame
public import Idealize.ShloMosaic.Lib.MemrefSat

@[expose] public section

noncomputable section

namespace Cert.KernelIdeal.Frame

open Cert.KernelIdeal.Gen Cert.KernelIdeal.Net
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf heldIn)

variable {F : FTy → Type} [FloatOps F]

local notation "𝕄" => MT nD τ sig Unit (Elt F) ℕ UU ℕ

/-- A whole memref owned at values is its buffer held at contents that read those values. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  rw [owns_eq_ownsSat]
  unfold ownsSat
  rw [h.set_eq_univ]

variable (V : (c : Dev nD) → Valuation τ sig (Elt F))

/-- What an input window of the embedding region holds. -/
abbrev in0 (c : Dev nD) (w : Fin cfg0.W) (t : Fin cfg0.N) : (cfg0.win w).block.Idx → Elt F (cfg0.win w).elt :=
  heldIn cfg0 (c := c) (fun w => V c (Pipeline.arrRef spec0 w)) w t.val t.isLt

/-- What an input window of the selection region holds. -/
abbrev in1 (c : Dev nD) (w : Fin cfg1.W) (t : Fin cfg1.N) : (cfg1.win w).block.Idx → Elt F (cfg1.win w).elt :=
  heldIn cfg1 (c := c) (fun w => V c (Pipeline.arrRef spec1 w)) w t.val t.isLt

/-- The proof data of the embedding region. -/
def dat0 (c : Dev nD) : Dat τ (Elt F) Unit ℕ UU ℕ cfg0 c where
  A w := V c (Pipeline.arrRef spec0 w)
  after w t := match w with
    | ⟨0, _⟩ => in0 V c 0 t
    | ⟨1, _⟩ => in0 V c 1 t
    | ⟨2, _⟩ => in0 V c 2 t
    | ⟨3, _⟩ => in0 V c 3 t
    | ⟨4, _⟩ => in0 V c 4 t
    | ⟨5, _⟩ => emb (in0 V c 0 t) (in0 V c 1 t) (in0 V c 2 t) (in0 V c 3 t) (in0 V c 4 t)
  Φ _ := Pipeline.scopedRest (Ix := Unit) (Name := ℕ) (U := UU) (Lvl := ℕ) (Val := Elt F) spec0 c
  q _ := fullShare
  owed _ := 0

/-- The proof data of the selection region: the two windows on one array hold each a part of its share. -/
def dat1 (c : Dev nD) : Dat τ (Elt F) Unit ℕ UU ℕ cfg1 c where
  A w := V c (Pipeline.arrRef spec1 w)
  after w t := match w with
    | ⟨0, _⟩ => in1 V c 0 t
    | ⟨1, _⟩ => in1 V c 1 t
    | ⟨2, _⟩ => out (k1_pay6 (in1 V c 0 t) (in1 V c 1 t))
  Φ _ := Pipeline.scopedRest (Ix := Unit) (Name := ℕ) (U := UU) (Lvl := ℕ) (Val := Elt F) spec1 c
  q w := Pipeline.shareOf spec1 w
  owed _ := 0

theorem clip1_0 : ∀ (i : grid1.Coords) (a : Fin 2), (win1_0).clip i a = none := by decide +kernel

theorem before0 (c : Dev nD) (w : Fin cfg0.W) (hw : (cfg0.win w).isOut = false) (ha : ∀ t, (dat0 V c).after w t = in0 V c w t)
    (hc : ∀ (i : cfg0.grid.Coords) a, (cfg0.win w).clip i a = none) (t : Fin cfg0.N) (d) : (dat0 V c).before w t d = in0 V c w t :=
  (dat0 V c).before_eq_heldIn w hw (fun _ => rfl) hc ha t d

theorem before1 (c : Dev nD) (w : Fin cfg1.W) (hw : (cfg1.win w).isOut = false) (ha : ∀ t, (dat1 V c).after w t = in1 V c w t)
    (hc : ∀ (i : cfg1.grid.Coords) a, (cfg1.win w).clip i a = none) (t : Fin cfg1.N) (d) : (dat1 V c).before w t d = in1 V c w t :=
  (dat1 V c).before_eq_heldIn w hw (fun _ => rfl) hc ha t d

theorem body0 (c : Dev nD) : BodyObligation (dat0 V c) (defs₀ (F := F)) Variants.none () Set.univ := fun t => by
  rw [bigSep_W0, bigSep_W0]
  rw [show (dat0 V c).Φ t.castSucc = (dat0 V c).Φ t.succ from rfl, show (dat0 V c).owesAt () t.succ = (dat0 V c).owesAt () t.castSucc from rfl]
  dsimp only
  simp only [before0 V c 0 rfl (fun _ => rfl) (fun _ _ => rfl), before0 V c 1 rfl (fun _ => rfl) (fun _ _ => rfl), before0 V c 2 rfl (fun _ => rfl) (fun _ _ => rfl),
    before0 V c 3 rfl (fun _ => rfl) (fun _ _ => rfl), before0 V c 4 rfl (fun _ => rfl) (fun _ _ => rfl)]
  rw [show (dat0 V c).after 0 t = in0 V c 0 t from rfl, show (dat0 V c).after 1 t = in0 V c 1 t from rfl, show (dat0 V c).after 2 t = in0 V c 2 t from rfl,
    show (dat0 V c).after 3 t = in0 V c 3 t from rfl, show (dat0 V c).after 4 t = in0 V c 4 t from rfl,
    show (dat0 V c).after 5 t = emb (in0 V c 0 t) (in0 V c 1 t) (in0 V c 2 t) (in0 V c 3 t) (in0 V c 4 t) from rfl]
  simp only [owns_pt c _ (hstage0_0 0), owns_pt c _ (hstage0_1 0), owns_pt c _ (hstage0_2 0), owns_pt c _ (hstage0_3 0), owns_pt c _ (hstage0_4 0), owns_pt c _ (hstage0_5 0)]
  iintro ⟨HΦ, Howes, ⟨%d0, %f0, %e0, H0⟩, ⟨%d1, %f1, %e1, H1⟩, ⟨%d2, %f2, %e2, H2⟩, ⟨%d3, %f3, %e3, H3⟩, ⟨%d4, %f4, %e4, H4⟩, ⟨%d5, %f5, -, H5⟩⟩
  iapply (emb_run c (stage0_0 0) (hstage0_0 0) (stage0_1 0) (hstage0_1 0) (stage0_2 0) (hstage0_2 0) (stage0_3 0) (hstage0_3 0) (stage0_4 0) (hstage0_4 0)
    (stage0_5 0) (hstage0_5 0) _ _ _ _ _ f0 f1 f2 f3 f4 f5 e0 e1 e2 e3 e4 Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  isplitl [H4]; · iexists _; isplitr; swap; (· iexact H4); ipureintro; exact e4
  iexists _; isplitr; swap; (· iexact H5); ipureintro; exact rd_stored c _ _ _ _ _ _ _

theorem body1 (c : Dev nD) : BodyObligation (dat1 V c) (defs₀ (F := F)) Variants.none () Set.univ := fun t => by
  rw [bigSep_W1, bigSep_W1]
  rw [show (dat1 V c).Φ t.castSucc = (dat1 V c).Φ t.succ from rfl, show (dat1 V c).owesAt () t.succ = (dat1 V c).owesAt () t.castSucc from rfl]
  dsimp only
  simp only [before1 V c 0 rfl (fun _ => rfl) clip1_0, before1 V c 1 rfl (fun _ => rfl) (fun _ _ => rfl)]
  rw [show (dat1 V c).after 0 t = in1 V c 0 t from rfl, show (dat1 V c).after 1 t = in1 V c 1 t from rfl,
    show (dat1 V c).after 2 t = out (k1_pay6 (in1 V c 0 t) (in1 V c 1 t)) from rfl]
  simp only [owns_pt c _ (stage_whole1 0 _), owns_pt c _ (stage_whole1 1 _), owns_pt c _ (stage_whole1 2 _)]
  iintro ⟨HΦ, Howes, ⟨%d0, %f0, %e0, H0⟩, ⟨%d1, %f1, %e1, H1⟩, ⟨%d2, %f2, -, H2⟩⟩
  iapply (topk_run c (grid1.coords t) _ (hstage1_0 ((cfg1.slots t 0).cast nbuf1_0)) _ (hstage1_1 ((cfg1.slots t 1).cast nbuf1_1)) _
    (hstage1_2 ((cfg1.slots t 2).cast nbuf1_2)) _ _ f0 f1 e0 e1 f2 Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists _; isplitr; swap; (· iexact H0); ipureintro; exact e0
  isplitl [H1]; · iexists _; isplitr; swap; (· iexact H1); ipureintro; exact e1
  iexists _; isplitr; swap; (· iexact H2); ipureintro; exact rd_result c _ _ _

end Cert.KernelIdeal.Frame

end
-- ==== Proof.KRun.lean ====
module

public import proofs.«01_k».proof.Proof.Data

@[expose] public section

noncomputable section

namespace Cert.KernelIdeal.Frame

open Cert.KernelIdeal.Gen Cert.KernelIdeal.Net
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf heldIn RegionSeg Seg)

variable {F : FTy → Type} [FloatOps F]

local notation "𝕄" => MT nD τ sig Unit (Elt F) ℕ UU ℕ

/-- The pipeline library's algebra inside the whole. -/
def EP : Emb UU (MT nD τ sig Unit (Elt F) ℕ UU ℕ) :=
  (Emb.refl _).trans (uEmb (nD := nD) (sig := sig) (Ix := Unit) (Val := Elt F) (Name := ℕ) (U := UU) (Lvl := ℕ)).toEmb

instance EP_landsIn : (EP : Emb UU 𝕄).LandsIn (upEmb : UEmb _ 𝕄) := by unfold EP; infer_instance

abbrev L : GSem nD τ sig → Finset Unit := fun _ => ∅
abbrev lv : GSem nD τ sig → Unit → ℕ := fun _ _ => 0

variable (m : (ℓ : Loc nD τ sig) → Buf (Elt F) ℓ)

/-- What the embedding region leaves in its array. -/
def emb2 (c : Dev nD) : Buf (Elt F) ((c : Thread nD τ).loc main_v2) := (dat0 (V1 m) c).arrAt 5 cfg0.N

/-- The buffers after the embedding region. -/
abbrev U2 (c : Dev nD) : Valuation τ sig (Elt F) := Function.update (V1 m c) main_v2 (emb2 m c)

/-- What the selection region leaves in its array. -/
def sel3 (c : Dev nD) : Buf (Elt F) ((c : Thread nD τ).loc main_v3) := (dat1 (U2 m) c).arrAt 2 cfg1.N

/-- The embedding region's arrays at its end are the buffers after it, -/
theorem arr0 (c : Dev nD) (w : Fin 6) : (dat0 (V1 m) c).arrAt w cfg0.N = U2 m c (Pipeline.arrRef spec0 w) := by
  by_cases h5 : w = 5
  · subst h5
    show emb2 m c = U2 m c main_v2
    exact (Function.update_self (Proc.devRef .tc main_v2 : DevRef τ sig) (emb2 m c) (V1 m c)).symm
  · have hin : ∀ w : Fin 6, w ≠ 5 → (spec0 w).isOut = false := by decide
    have hne : ∀ w : Fin 6, w ≠ 5 → Pipeline.arrRef spec0 w ≠ main_v2 := by decide
    refine ((dat0 (V1 m) c).arrAt_in w (hin w h5) _).trans ?_
    exact (Function.update_of_ne (StableHlo.devRef_ne_of_ne (hne w h5)) (emb2 m c) (V1 m c)).symm

/-- and it changes nothing else. -/
theorem rest0 (c : Dev nD) (b : Ref sig .tc) (hb : b ∉ Finset.univ.image (Pipeline.arrRef spec0)) : U2 m c b = V1 m c b := by
  refine Function.update_of_ne (StableHlo.devRef_ne_of_ne fun h => hb ?_) (emb2 m c) (V1 m c)
  rw [h]
  exact Finset.mem_image.mpr ⟨5, Finset.mem_univ _, rfl⟩

/-- The buffers after the selection region. -/
abbrev U3 (c : Dev nD) : Valuation τ sig (Elt F) := Function.update (U2 m c) main_v3 (sel3 m c)

/-- The selection region's arrays at its end are the buffers after it, -/
theorem arr1 (c : Dev nD) (w : Fin 3) : (dat1 (U2 m) c).arrAt w cfg1.N = U3 m c (Pipeline.arrRef spec1 w) := by
  by_cases h2 : w = 2
  · subst h2
    show sel3 m c = U3 m c main_v3
    exact (Function.update_self (Proc.devRef .tc main_v3 : DevRef τ sig) (sel3 m c) (U2 m c)).symm
  · have hin : ∀ w : Fin 3, w ≠ 2 → (spec1 w).isOut = false := by decide
    have hne : ∀ w : Fin 3, w ≠ 2 → Pipeline.arrRef spec1 w ≠ main_v3 := by decide
    refine ((dat1 (U2 m) c).arrAt_in w (hin w h2) _).trans ?_
    exact (Function.update_of_ne (StableHlo.devRef_ne_of_ne (hne w h2)) (sel3 m c) (U2 m c)).symm

/-- and it changes nothing else. -/
theorem rest1 (c : Dev nD) (b : Ref sig .tc) (hb : b ∉ Finset.univ.image (Pipeline.arrRef spec1)) : U3 m c b = U2 m c b := by
  refine Function.update_of_ne (StableHlo.devRef_ne_of_ne fun h => hb ?_) (sel3 m c) (U2 m c)
  rw [h]
  exact Finset.mem_image.mpr ⟨2, Finset.mem_univ _, rfl⟩

/-- What the regions leave. -/
def outs : Outs (F := F) := fun n r c =>
  if n = 2 then U2 m c r else Function.update (U2 m c) main_v3 (sel3 m c) r

theorem outs2 (c : Dev nD) : outs m 2 main_v2 c = emb2 m c := by
  unfold outs
  rw [if_pos rfl]
  exact Function.update_self ..

theorem outs3 (c : Dev nD) : outs m 3 main_v3 c = sel3 m c := by
  unfold outs
  rw [if_neg (by decide)]
  exact Function.update_self ..

theorem V2_eq (c : Dev nD) : V2 m (outs m) c = U2 m c := by unfold V2; rw [outs2]

/-- The proof data of the two regions. -/
def pdats : (p : Fin 2) → (c : Dev nD) → Dat τ (Elt F) Unit ℕ UU ℕ (cfgs p) c
  | ⟨0, _⟩ => fun c => dat0 (V1 m) c
  | ⟨1, _⟩ => fun c => dat1 (U2 m) c

/-- What rides along: the core owes nothing. -/
abbrev Ride (_ : Fin 3) (c : Dev nD) : sProp 𝕄 := iprop(∃ W, owes (c : Thread nD τ) (0 : CellTallies nD τ sig Unit) W)

set_option backward.isDefEq.respectTransparency.types false in
/-- The embedding region between its two thread states. -/
def R0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body0 (V1 m) c).loose
  hwaits := Pipeline.hwaits_of_owed_zero _ _ _ _ L lv 0 fun _ _ => rfl
  pre c := iprop(StableHlo.held (c : Thread nD τ) (Pipeline.ucRefs τ sig) (V1 m c) ∗ Ride 0 c)
  post c := iprop(StableHlo.held (c : Thread nD τ) (Pipeline.ucRefs τ sig) (U2 m c) ∗ Ride 1 c)
  X _ := BI.emp
  Y _ := BI.emp
  Z c := Pipeline.unscopedRest (Ix := Unit) (Name := ℕ) (U := UU) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none, show (pdats m 0 c).Φ (Fin.last _) = Pipeline.scopedRest (Ix := Unit) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      (pdats m) ((pdats m 0 c).share_full fun _ => rfl) (fun b => V1 m c b) (fun b => U2 m c b) ((pdats m 0 c).arrAt · cfg0.N)
      (arr0 m c) (rest0 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The selection region between its two thread states. -/
def R1 : RegionSeg (pcfgs (F := F)) adm (pdats m) () defs₀ Variants.none L lv 1 where
  win := launch₀1.win
  block_pos := launch₀1.block_pos
  stage_whole := launch₀1.stage_whole
  K := PEmpty
  osem k := k.elim
  ho := Pipeline.OwnSemFacts.none _
  hbody c := (body1 (U2 m) c).loose
  hwaits := Pipeline.hwaits_of_owed_zero _ _ _ _ L lv 1 fun _ _ => rfl
  pre c := iprop(StableHlo.held (c : Thread nD τ) (Pipeline.ucRefs τ sig) (U2 m c) ∗ Ride 1 c)
  post c := iprop(StableHlo.held (c : Thread nD τ) (Pipeline.ucRefs τ sig) (U3 m c) ∗ Ride 2 c)
  X _ := BI.emp
  Y _ := BI.emp
  Z c := Pipeline.unscopedRest (Ix := Unit) (Name := ℕ) (U := UU) (Lvl := ℕ) spec1 c (fun b => U2 m c b)
  hentry c := by
    rw [Pipeline.ownSems0_none]
    have hsplit := Pipeline.arrays_of_unscopedBufs_shared (p := 1) (pcfgs (F := F)) adm (pdats m) launch₀1.win sharedIn1 launch₀1.arr_whole c
      (fun _ _ => rfl) (fun b => U2 m c b) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Pipeline.scopedRest (Ix := Unit) (Name := ℕ) (U := UU) (Lvl := ℕ) (Val := Elt F) spec1 c from rfl]
    iintro ⟨-, -, Hr⟩; iexact Hr
  hout c := by
    rw [Pipeline.ownSems0_none, show (pdats m 1 c).Φ (Fin.last _) = Pipeline.scopedRest (Ix := Unit) (Name := ℕ) (U := UU) (Lvl := ℕ) (Val := Elt F) spec1 c from rfl]
    iintro Hr
    isplitr; · iempintro
    isplitr; · iempintro
    iexact Hr
  hexit c := by
    have hjoin := Pipeline.unscopedBufs_of_arrays_shared (p := 1) (pcfgs (F := F)) adm (Ix := Unit) (Name := ℕ) (U := UU) (Lvl := ℕ) launch₀1.win sharedIn1 launch₀1.arr_whole c
      (pdats m) (fun _ _ => rfl) (fun b => U2 m c b) (fun b => U3 m c b) ((pdats m 1 c).arrAt · cfg1.N)
      (arr1 m c) (rest1 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The launch element: the pipeline library's alone. -/
def u₀ : UU := initOf (Pipeline.cells cfgs cellOf_inj) (Pipeline.launchToks cfgs cellOf_inj)

/-- What every final memory says on core `c`: the result as computed, each argument as launched. -/
abbrev Says (c : Dev nD) (mem : (ℓ : Loc nD τ sig) → Buf (Elt F) ℓ) : Prop :=
  mem ((c.tc : Thread nD τ).loc main_v3) = sel3 m c
    ∧ mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)

theorem V3_eq (c : Dev nD) : V3 m (outs m) c = U3 m c := by
  unfold V3; rw [V2_eq, outs3]

/-- The last thread state is the one the selection region leaves. -/
theorem last (c : Dev nD) : (R1 m).post c ⊢ iprop(StableHlo.held (c : Thread nD τ) (Pipeline.ucRefs τ sig) (V3 m (outs m) c) ∗ Ride 2 c) := by
  have h : (StableHlo.held (c : Thread nD τ) (Pipeline.ucRefs τ sig) (U3 m c) : sProp 𝕄) = StableHlo.held (c : Thread nD τ) (Pipeline.ucRefs τ sig) (V3 m (outs m) c) :=
    congrArg _ (V3_eq m c).symm
  exact sep_mono (Entails.of_eq h) .rfl

set_option backward.isDefEq.respectTransparency.types false in
/-- Every run of the kernel ends with the computed result, the arguments as launched and every counter at zero. -/
theorem run (ρ : Dev nD → PrngReg) :
    θ_run defs (onTc (τ := τ) (main (F := F))) ⟨m, fun _ => 0, ρ⟩ (fun r => (∀ c : Dev nD, Says m c r.2.mem) ∧ r.2.sem = fun _ => 0) := by
  refine Pipeline.θ_run_regions_kit_dev_sems (pcfgs (F := F)) adm (pdats m) () cellOf_inj EP defs₀ Variants.none L lv m ρ main
    (segs m Variants.none L lv Ride () (pdats m) (R0 m) (R1 m))
    (fun c Q => by
      rewrite [main_chain c, Seg.run_eq_chain,
        show (segs m Variants.none L lv Ride () (pdats m) (R0 m) (R1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0) (fun _ _ => rfl)
    (fun _ => iprop(emp)) u₀
    (by
      iintro Hu; imodintro
      isplitl [Hu]; · iapply (show (ownU u₀ : sProp 𝕄) ⊢ BI.own (EP (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Ride 0 c))
    (Tₙ := fun c => StableHlo.held (c : Thread nD τ) (Pipeline.ucRefs τ sig) (V3 m (outs m) c))
    (hch := fun c => ⟨.rfl, .rfl, .rfl, last m c⟩)
    (hinit := ?_) (QY := fun c s => Says m c s.mem)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      have hb : ∀ b : Ref sig .tc, (Proc.devRef (τ := τ) .tc b).isScoped = false → s'.mem.mem ((c.tc : Thread nD τ).loc b) = V3 m (outs m) c b := fun b hs =>
        h (Proc.devRef .tc b) (Finset.mem_filter.mpr ⟨StableHlo.devRef_mem_tcRefs b, by rw [hs]; decide⟩)
      exact ⟨(hb main_v3 rfl).trans (by rw [V3_eq]; exact Function.update_self ..),
        (hb main_arg0 rfl).trans (V3_main_arg0 m (outs m) c), (hb main_arg1 rfl).trans (V3_main_arg1 m (outs m) c),
        (hb main_arg2 rfl).trans (V3_main_arg2 m (outs m) c), (hb main_arg3 rfl).trans (V3_main_arg3 m (outs m) c),
        (hb main_arg4 rfl).trans (V3_main_arg4 m (outs m) c)⟩
    · iexact HSI

end Cert.KernelIdeal.Frame

end
-- ==== Proof.Twin.lean ====
/- The program as printed and its idealized twin are one text: their definitions, their launches and their mains agree. -/
module

public import proofs.«01_k».proof.Proof.Gen.Kernel.Launch
public import proofs.«01_k».proof.Defs
public import proofs.«01_k».proof.Proof.KRun

@[expose] public section

set_option maxRecDepth 100000

noncomputable section

namespace Cert.Proof

open Idealize.ShloMosaic Idealize.SL.Sem

variable {F : FTy → Type} [FloatOps F]

/-- The two launch tables send every label to the same kernel. -/
theorem table_eq : Cert.Kernel.defs₀ (F := F) = Cert.KernelIdeal.defs₀ (F := F) := by
  unfold Cert.Kernel.defs₀ Cert.KernelIdeal.defs₀
  congr 1
  funext l x
  match l, x with
  | 0, (t, s) => rfl
  | 1, (t, s) => rfl
  | ⟨_ + 2, h⟩, _ => exact absurd h (Nat.not_lt.2 (Nat.le_add_left _ _))

theorem defs_eq : Cert.Kernel.defs (F := F) = Cert.KernelIdeal.defs (F := F) := by
  unfold Cert.Kernel.defs Cert.KernelIdeal.defs
  exact congrArg _ table_eq

theorem main_eq : Cert.Kernel.main (F := F) = Cert.KernelIdeal.main (F := F) := rfl

/-- The printed program's run, read off its twin's. -/
theorem frame_kernel : Cert.quiescent_Kernel := by
  intro m g _
  have h := Cert.KernelIdeal.Frame.run (F := Bits) m g
  rw [← defs_eq, ← main_eq] at h
  exact (θ_run _ _ _).mono (fun r hr => ⟨fun c => (hr.1 c).2, hr.2⟩) h

theorem frame_ideal : Cert.quiescent_KernelIdeal := fun m g _ =>
  (θ_run _ _ _).mono (fun r hr => ⟨fun c => (hr.1 c).2, hr.2⟩) (Cert.KernelIdeal.Frame.run (F := Ideal) m g)

end Cert.Proof

end
-- ==== Proof.RefRun.lean ====
/- The reference's run: it has no semaphore, so its counters read zero at the end. -/
module

public import proofs.«01_k».proof.Defs
public import proofs.«01_k».proof.Proof.Gen.ReferenceIdeal.Run

@[expose] public section

noncomputable section

namespace Cert.Proof

open Idealize.ShloMosaic Idealize.SL.Sem

theorem no_sem (f : GSem Cert.ReferenceIdeal.nD Cert.ReferenceIdeal.τ Cert.ReferenceIdeal.sig → Int) : f = fun _ => 0 := by
  funext ⟨_, s⟩
  cases s with
  | reg s => exact s.elim0
  | dma s => exact s.elim0

theorem frame_reference : Cert.quiescent_ReferenceIdeal := fun m g _ =>
  (θ_run _ _ _).mono (fun r hr => ⟨fun c => (hr c).2, no_sem _⟩) (Cert.ReferenceIdeal.Value.run (F := Ideal) m g)

end Cert.Proof

end
-- ==== Proof.PreFacts.lean ====
/- The side conditions of the precondition's operations. -/
module

public import proofs.«01_k».proof.Pre_distinct_neighbours
public import Idealize.ShloMosaic.Lib.Affine
public import Idealize.ShloMosaic.Lib.Decide

@[expose] public section

namespace Cert.Pre_distinct_neighbours

instance sides : Facts where
  transposes_S256x256_S256x256_1_0 := by decide
  bcast_S256_S1x256_1 := by decide
  bcast_S1x256_S10000x256_0_1 := by decide
  bcast_S_S10000x256 := by decide
  reducesTo_S10000x256_S10000_d1 := by decide
  h_S_ := by decide
  bcast_S10000_S10000x1_0 := by decide
  bcast_S_S10000x1 := by decide
  bcast_S10000x1_S10000x256_0_1 := by decide
  transposes_S10000x256_S256x10000_1_0 := by decide
  sliceFits_S10000x10000_S10000x22 := by decide
  slices_S10000x22_S10000x21_0_1 := by decide
  slices_S10000x22_S10000x21_0_0 := by decide
  bcast_S_S10000x21 := by decide
  reducesTo_S10000x21_S_d0_1 := by decide
  dot_S10000x256_S256x256_S10000x256_1_0_0_1_n_n_wf := by decide
  dot_S10000x256_S256x10000_S10000x10000_1_0_0_1_n_n_wf := by decide

end Cert.Pre_distinct_neighbours

end
-- ==== Proof.Lane.lean ====
/- Four registers of one lane, looked at through a threshold: which of them reach it, how many do, and that those that
   do come first. Each step of the register network keeps the order and never has more than what was put in. -/
module

public import proofs.«01_k».proof.Proof.Net
public import Idealize.ShloMosaic.PureOps.Ideal
public import Idealize.ShloMosaic.Lib.Pointwise

@[expose] public section

noncomputable section

namespace Cert.KernelIdeal.Lane

open Idealize.ShloMosaic Cert.KernelIdeal.Net

/-- Whether a value reaches the threshold. -/
def ge (v x : EReal) : Bool := decide (v ≤ x)

theorem ge_max (v x y : EReal) : ge v (max x y) = (ge v x || ge v y) := by
  unfold ge; rw [Bool.eq_iff_iff]; simp [le_max_iff]

theorem ge_min (v x y : EReal) : ge v (min x y) = (ge v x && ge v y) := by
  unfold ge; rw [Bool.eq_iff_iff]; simp [le_min_iff]

/-- How many of four flags are set. -/
def four (a b c d : Bool) : ℕ := a.toNat + b.toNat + c.toNat + d.toNat

/-- The set flags come first. -/
def down (a b c d : Bool) : Bool := (!b || a) && (!c || b) && (!d || c)

/-- How many registers of a lane reach the threshold. -/
def cnt (v : EReal) (M : Regs Ideal) (i : S200x128.Idx) : ℕ := four (ge v (M.a i)) (ge v (M.b i)) (ge v (M.c i)) (ge v (M.d i))

/-- The registers of a lane that reach the threshold come first. -/
def srt (v : EReal) (M : Regs Ideal) (i : S200x128.Idx) : Bool := down (ge v (M.a i)) (ge v (M.b i)) (ge v (M.c i)) (ge v (M.d i))

theorem max_at (x y : T Ideal) (i : S200x128.Idx) : maximumf x y i = max (x i : EReal) (y i) := rfl
theorem min_at (x y : T Ideal) (i : S200x128.Idx) : minimumf x y i = min (x i : EReal) (y i) := rfl

theorem sort4_srt (v : EReal) (s0 s1 s2 s3 : T Ideal) (i : S200x128.Idx) : srt v (sort4 s0 s1 s2 s3) i = true := by
  unfold srt sort4
  simp only [max_at, min_at, ge_max, ge_min]
  generalize ge v (s0 i) = a; generalize ge v (s1 i) = b; generalize ge v (s2 i) = c; generalize ge v (s3 i) = d
  revert a b c d; decide

theorem sort4_cnt (v : EReal) (s0 s1 s2 s3 : T Ideal) (i : S200x128.Idx) :
    cnt v (sort4 s0 s1 s2 s3) i = four (ge v (s0 i)) (ge v (s1 i)) (ge v (s2 i)) (ge v (s3 i)) := by
  unfold cnt sort4
  simp only [max_at, min_at, ge_max, ge_min]
  generalize ge v (s0 i) = a; generalize ge v (s1 i) = b; generalize ge v (s2 i) = c; generalize ge v (s3 i) = d
  revert a b c d; decide

theorem merge_flags : ∀ a b c d e f g h : Bool, down a b c d = true → down e f g h = true →
    let c1 := a || h
    let c2 := b || g
    let c3 := c || f
    let c4 := d || e
    let x1 := c1 || c3
    let x3 := c1 && c3
    let x2 := c2 || c4
    let x4 := c2 && c4
    down (x1 || x2) (x1 && x2) (x3 || x4) (x3 && x4) = true
      ∧ four (x1 || x2) (x1 && x2) (x3 || x4) (x3 && x4) ≤ four a b c d + four e f g h := by decide

theorem merge_ok (v : EReal) (M B : Regs Ideal) (i : S200x128.Idx) (hM : srt v M i = true) (hB : srt v B i = true) :
    srt v (merge M B) i = true ∧ cnt v (merge M B) i ≤ cnt v M i + cnt v B i := by
  have h := merge_flags _ _ _ _ _ _ _ _ hM hB
  unfold srt cnt merge
  simp only [max_at, min_at, ge_max, ge_min]
  exact h

theorem insert_flags : ∀ a b c d s : Bool, down a b c d = true →
    down (a || s) (b || (a && s)) (c || (b && (a && s))) (d || (c && (b && (a && s)))) = true
      ∧ four (a || s) (b || (a && s)) (c || (b && (a && s))) (d || (c && (b && (a && s)))) ≤ four a b c d + s.toNat := by decide

theorem insert_ok (v : EReal) (M : Regs Ideal) (s : T Ideal) (i : S200x128.Idx) (hM : srt v M i = true) :
    srt v (Net.insert M s) i = true ∧ cnt v (Net.insert M s) i ≤ cnt v M i + (ge v (s i)).toNat := by
  have h := insert_flags _ _ _ _ (ge v (s i)) hM
  unfold srt cnt Net.insert
  simp only [max_at, min_at, ge_max, ge_min]
  exact h

/-- How many of the slices `0 … n-1` reach the threshold in a lane. -/
def hits (v6 : FVec Ideal S200x10112 .f32) (v : EReal) (i : S200x128.Idx) : (n : ℕ) → n ≤ 79 → ℕ
  | 0, _ => 0
  | n + 1, h => hits v6 v i n (by omega) + (ge v (raw v6 n (by omega) i)).toNat

theorem hits_succ (v6 : FVec Ideal S200x10112 .f32) (v : EReal) (i : S200x128.Idx) (n : ℕ) (h : n + 1 ≤ 79) :
    hits v6 v i (n + 1) h = hits v6 v i n (by omega) + (ge v (raw v6 n (by omega) i)).toNat := rfl

theorem groups_ok (v6 : FVec Ideal S200x10112 .f32) (v : EReal) (i : S200x128.Idx) : ∀ (g : ℕ) (hg : g < 19),
    srt v (groups v6 g hg) i = true ∧ cnt v (groups v6 g hg) i ≤ hits v6 v i (4 * (g + 1)) (by omega) := by
  have grp : ∀ (g : ℕ) (hg : g < 19), srt v (group v6 g hg) i = true
      ∧ hits v6 v i (4 * g) (by omega) + cnt v (group v6 g hg) i = hits v6 v i (4 * (g + 1)) (by omega) := by
    intro g hg
    refine ⟨sort4_srt v _ _ _ _ i, ?_⟩
    unfold group
    rw [sort4_cnt]
    show _ = hits v6 v i (4 * g + 1 + 1 + 1 + 1) _
    rw [hits_succ, hits_succ, hits_succ, hits_succ]
    unfold four
    omega
  intro g
  induction g with
  | zero => intro hg; exact ⟨(grp 0 hg).1, by have := (grp 0 hg).2; unfold groups; omega⟩
  | succ g ih =>
    intro hg
    have h1 := ih (by omega)
    have h2 := grp (g + 1) hg
    have h3 := merge_ok v _ _ i h1.1 h2.1
    unfold groups
    exact ⟨h3.1, by have := h1.2; have := h2.2; have := h3.2; omega⟩

/-- How many of a lane's real columns reach the threshold. -/
def lane (v6 : FVec Ideal S200x10112 .f32) (v : EReal) (i : S200x128.Idx) : ℕ :=
  hits v6 v i 78 (by decide) + (ge v (last v6 i)).toNat

/-- The registers are in order, and no more of them reach the threshold than columns do. -/
theorem regs_ok (v6 : FVec Ideal S200x10112 .f32) (v : EReal) (i : S200x128.Idx) :
    srt v (regs v6) i = true ∧ cnt v (regs v6) i ≤ lane v6 v i := by
  have h0 := groups_ok v6 v i 18 (by decide)
  have h1 := insert_ok v _ (raw v6 76 (by decide)) i h0.1
  have h2 := insert_ok v _ (raw v6 77 (by decide)) i h1.1
  have h3 := insert_ok v _ (last v6) i h2.1
  refine ⟨h3.1, ?_⟩
  have h4 : lane v6 v i = hits v6 v i 76 (by decide) + (ge v (raw v6 76 (by decide) i)).toNat
      + (ge v (raw v6 77 (by decide) i)).toNat + (ge v (last v6 i)).toNat := rfl
  have h5 : cnt v (groups v6 18 (by decide)) i ≤ hits v6 v i 76 (by decide) := h0.2
  have := h1.2; have := h2.2; have := h3.2
  rw [h4]
  unfold regs
  omega

end Cert.KernelIdeal.Lane

end
-- ==== Proof.Pops.lean ====
/- The twenty removals: each takes at least one value off a row, so the value on top after them is reached by at least
   twenty-one of the row's columns, whenever it lies above the low literal. -/
module

public import proofs.«01_k».proof.Proof.Lane

@[expose] public section

noncomputable section

namespace Cert.KernelIdeal.Lane

open Idealize.ShloMosaic Cert.KernelIdeal.Gen Cert.KernelIdeal.Net

/-- The low literal. -/
def low : EReal := Ideal.ofBits .f32 0xFF61B1E6#32

/-- The small positive literal. -/
def tiny : EReal := Ideal.ofBits .f32 0x006CE3EE#32

theorem bot_lit : Ideal.ofBits .f32 0xFF800000#32 = (⊥ : EReal) := by
  simp [Ideal.ofBits, Ideal.ieee]

theorem low_neg : low < 0 := by
  unfold low
  simp [Ideal.ofBits, Ideal.ieee]
  exact_mod_cast (by norm_num : (0 : ℝ) < 14791142 * 2 ^ 104)

theorem tiny_pos : 0 < tiny := by
  unfold tiny
  simp [Ideal.ofBits, Ideal.ieee]
  exact_mod_cast (by positivity : (0 : ℝ) < 7136238 * (2 ^ 149)⁻¹)

theorem low_tiny : low < tiny := low_neg.trans tiny_pos

theorem sel_iff {α : Type} (p : Prop) [Decidable p] (a b : α) : Scalar.select (BitVec.ofBool (decide p)) a b = if p then a else b := by
  unfold Scalar.select
  by_cases h : p <;> simp [h]

theorem top_at (M : Regs Ideal) (r : Fin 200) (z : Fin 1) :
    top M (ix2 r z) = (Finset.univ : Finset (Fin 128)).fold max (⊥ : EReal) (fun l => M.a (ix2 r l)) := by
  unfold top
  pointwise
  rw [bot_lit]

theorem le_top (v : EReal) (hv : v ≠ ⊥) (M : Regs Ideal) (r : Fin 200) (z : Fin 1) :
    v ≤ top M (ix2 r z) ↔ ∃ l : Fin 128, v ≤ M.a (ix2 r l) := by
  rw [top_at]
  simp [Finset.le_fold_max, hv]

/-- Some lane holds the value on top. -/
theorem top_held (M : Regs Ideal) (r : Fin 200) (z : Fin 1) (hv : top M (ix2 r z) ≠ (⊥ : EReal)) :
    ∃ l : Fin 128, M.a (ix2 r l) = top M (ix2 r z) := by
  obtain ⟨l, hl⟩ := (le_top (top M (ix2 r z)) hv M r z).1 le_rfl
  refine ⟨l, le_antisymm ?_ hl⟩
  by_cases h : M.a (ix2 r l) = (⊥ : EReal)
  · rw [h]; exact bot_le
  · exact (le_top _ h M r z).2 ⟨l, le_rfl⟩

/-- What a removal leaves in a lane. -/
theorem pop_at (M : Regs Ideal) (r : Fin 200) (l : Fin 128) :
    (M.a (ix2 r l) = top M (ix2 r 0) → (pop M).a (ix2 r l) = M.b (ix2 r l) ∧ (pop M).b (ix2 r l) = M.c (ix2 r l)
        ∧ (pop M).c (ix2 r l) = M.d (ix2 r l) ∧ (pop M).d (ix2 r l) = low)
    ∧ (M.a (ix2 r l) ≠ top M (ix2 r 0) → (pop M).a (ix2 r l) = M.a (ix2 r l) ∧ (pop M).b (ix2 r l) = M.b (ix2 r l)
        ∧ (pop M).c (ix2 r l) = M.c (ix2 r l) ∧ (pop M).d (ix2 r l) = M.d (ix2 r l)) := by
  have hb : broadcastTo S200x128 (top M) broadcasts_S200x1_S200x128 (ix2 r l) = top M (ix2 r 0) := by pointwise
  have hit : cmpf .oeq M.a (broadcastTo S200x128 (top M) broadcasts_S200x1_S200x128) (ix2 r l)
      = BitVec.ofBool (decide ((M.a (ix2 r l) : EReal) = top M (ix2 r 0))) := by
    rw [← hb]; rfl
  have sel : ∀ x y : T Ideal, select (cmpf .oeq M.a (broadcastTo S200x128 (top M) broadcasts_S200x1_S200x128)) x y (ix2 r l)
      = if (M.a (ix2 r l) : EReal) = top M (ix2 r 0) then x (ix2 r l) else y (ix2 r l) := by
    intro x y
    rw [← sel_iff, ← hit]; rfl
  unfold pop
  simp only [sel]
  constructor
  · intro h
    simp only [if_pos h, true_and]
    rfl
  · intro h
    simp only [if_neg h, and_self]

theorem pop_flags : ∀ a b c d : Bool, down a b c d = true →
    down b c d false = true ∧ four b c d false + a.toNat ≤ four a b c d ∧ (b = true → a = true) := by decide

/-- One removal at a threshold above the low literal. -/
theorem pop_ok (v : EReal) (hv : low < v) (M : Regs Ideal) (r : Fin 200) (hM : ∀ l : Fin 128, srt v M (ix2 r l) = true) :
    (∀ l : Fin 128, srt v (pop M) (ix2 r l) = true)
    ∧ (v ≤ top (pop M) (ix2 r 0) → v ≤ top M (ix2 r 0)
        ∧ (∑ l : Fin 128, cnt v (pop M) (ix2 r l)) + 1 ≤ ∑ l : Fin 128, cnt v M (ix2 r l)) := by
  have hv0 : v ≠ (⊥ : EReal) := (bot_le.trans_lt hv).ne'
  have hlow : ge v low = false := by unfold ge; exact decide_eq_false (not_le.2 hv)
  have key : ∀ l : Fin 128, srt v (pop M) (ix2 r l) = true
      ∧ (M.a (ix2 r l) = top M (ix2 r 0) → cnt v (pop M) (ix2 r l) + (ge v (M.a (ix2 r l))).toNat ≤ cnt v M (ix2 r l))
      ∧ cnt v (pop M) (ix2 r l) ≤ cnt v M (ix2 r l)
      ∧ (v ≤ (pop M).a (ix2 r l) → v ≤ (M.a (ix2 r l) : EReal)) := by
    intro l
    obtain ⟨h1, h2⟩ := pop_at M r l
    obtain ⟨f1, f2, f3⟩ := pop_flags _ _ _ _ (hM l)
    by_cases h : M.a (ix2 r l) = top M (ix2 r 0)
    · obtain ⟨e1, e2, e3, e4⟩ := h1 h
      unfold srt cnt
      rw [e1, e2, e3, e4, hlow]
      refine ⟨f1, fun _ => f2, by omega, fun hb => ?_⟩
      have := f3 (by unfold ge; exact decide_eq_true hb)
      unfold ge at this
      exact of_decide_eq_true this
    · obtain ⟨e1, e2, e3, e4⟩ := h2 h
      have hM' := hM l
      unfold srt at hM'
      unfold srt cnt
      rw [e1, e2, e3, e4]
      exact ⟨hM', fun hh => absurd hh h, le_rfl, id⟩
  refine ⟨fun l => (key l).1, fun hp => ?_⟩
  obtain ⟨l, hl⟩ := (le_top v hv0 _ r 0).1 hp
  have ht : v ≤ top M (ix2 r 0) := (le_top v hv0 M r 0).2 ⟨l, (key l).2.2.2 hl⟩
  refine ⟨ht, ?_⟩
  obtain ⟨k, hk⟩ := top_held M r 0 (fun h => hv0 (le_bot_iff.1 (h ▸ ht)))
  have hge : ge v (M.a (ix2 r k)) = true := by unfold ge; rw [hk]; exact decide_eq_true ht
  have := (key k).2.1 hk
  rw [hge] at this
  have hlt : (∑ l : Fin 128, cnt v (pop M) (ix2 r l)) < ∑ l : Fin 128, cnt v M (ix2 r l) :=
    Finset.sum_lt_sum (fun l _ => (key l).2.2.1) ⟨k, Finset.mem_univ k, by
      have h1 : true.toNat = 1 := rfl
      rw [h1] at this; omega⟩
  omega

theorem pops_ok (v : EReal) (hv : low < v) (M : Regs Ideal) (r : Fin 200) (hM : ∀ l : Fin 128, srt v M (ix2 r l) = true) : ∀ n : ℕ,
    (∀ l : Fin 128, srt v (pops n M) (ix2 r l) = true)
    ∧ (v ≤ top (pops n M) (ix2 r 0) → (∑ l : Fin 128, cnt v (pops n M) (ix2 r l)) + n ≤ ∑ l : Fin 128, cnt v M (ix2 r l)) := by
  intro n
  induction n with
  | zero =>
    have h0 : pops 0 M = M := rfl
    rw [h0]
    exact ⟨hM, fun _ => by rw [Nat.add_zero]⟩
  | succ n ih =>
    obtain ⟨h1, h2⟩ := pop_ok v hv (pops n M) r ih.1
    refine ⟨h1, fun hp => ?_⟩
    obtain ⟨h3, h4⟩ := h2 hp
    have h5 := ih.2 h3
    have h6 : pops (n + 1) M = pop (pops n M) := rfl
    rw [h6]
    omega

/-- At least twenty-one of a row's columns reach the value left on top, when that is above the low literal. -/
theorem many (v6 : FVec Ideal S200x10112 .f32) (r : Fin 200) (hv : low < mval v6 (ix2 r 0)) :
    21 ≤ ∑ l : Fin 128, lane v6 (mval v6 (ix2 r 0)) (ix2 r l) := by
  have hv0 : mval v6 (ix2 r 0) ≠ (⊥ : EReal) := (bot_le.trans_lt hv).ne'
  obtain ⟨h1, h2⟩ := pops_ok (mval v6 (ix2 r 0)) hv (regs v6) r (fun l => (regs_ok v6 _ _).1) 20
  have h3 := h2 le_rfl
  obtain ⟨k, hk⟩ := top_held (pops 20 (regs v6)) r 0 hv0
  have h4 : 1 ≤ cnt (mval v6 (ix2 r 0)) (pops 20 (regs v6)) (ix2 r k) := by
    have hge : ge (mval v6 (ix2 r 0)) ((pops 20 (regs v6)).a (ix2 r k)) = true := by
      unfold ge; rw [hk]; exact decide_eq_true le_rfl
    unfold cnt four
    rw [hge]
    have h1 : true.toNat = 1 := rfl
    rw [h1]; omega
  have h5 : cnt (mval v6 (ix2 r 0)) (pops 20 (regs v6)) (ix2 r k) ≤ ∑ l : Fin 128, cnt (mval v6 (ix2 r 0)) (pops 20 (regs v6)) (ix2 r l) :=
    Finset.single_le_sum (f := fun l => cnt (mval v6 (ix2 r 0)) (pops 20 (regs v6)) (ix2 r l)) (fun _ _ => Nat.zero_le _) (Finset.mem_univ k)
  have h6 : (∑ l : Fin 128, cnt (mval v6 (ix2 r 0)) (regs v6) (ix2 r l)) ≤ ∑ l : Fin 128, lane v6 (mval v6 (ix2 r 0)) (ix2 r l) :=
    Finset.sum_le_sum fun l _ => (regs_ok v6 _ _).2
  omega

end Cert.KernelIdeal.Lane

end
-- ==== Proof.Cols.lean ====
/- Reading the slices, the last slice and the widened block at a column; a row's count over the lanes is its count over
   the real columns. -/
module

public import proofs.«01_k».proof.Proof.Pops

@[expose] public section

noncomputable section

namespace Cert.KernelIdeal.Lane

open Idealize.ShloMosaic Cert.KernelIdeal.Gen Cert.KernelIdeal.Net

/-- A row's value at a column. -/
def col (v6 : FVec Ideal S200x10112 .f32) (r : Fin 200) (j : ℕ) : EReal := if h : j < 10112 then v6 (ix2 r ⟨j, h⟩) else ⊥

theorem raw_at (v6 : FVec Ideal S200x10112 .f32) (k : ℕ) (hk : k < 79) (r : Fin 200) (l : Fin 128) :
    raw v6 k hk (ix2 r l) = col v6 r (128 * k + l.val) := by
  have hl := l.isLt
  unfold col
  rw [dif_pos (by omega)]
  unfold raw extractStridedSlice
  congr 1
  funext a
  fin_cases a
  · exact Fin.ext (Nat.zero_add _)
  · rfl

theorem tail_flag : ∀ l : Fin 128, IntOp.cmpi .slt (BitVec.ofNat 32 l.val) 16#32 = BitVec.ofBool (decide (l.val < 16)) := by decide

theorem last_at (v6 : FVec Ideal S200x10112 .f32) (r : Fin 200) (l : Fin 128) :
    last v6 (ix2 r l) = if l.val < 16 then col v6 r (9984 + l.val) else low := by
  have h : tail (ix2 r l) = BitVec.ofBool (decide (l.val < 16)) := by
    rw [← tail_flag l]
    unfold tail k1_pay7
    pointwise
  unfold last
  rw [ValueIdx.select_apply, h, sel_iff, raw_at]
  rfl

/-- Whether a column reaches the threshold. -/
def one (v6 : FVec Ideal S200x10112 .f32) (r : Fin 200) (v : EReal) (j : ℕ) : ℕ := (ge v (col v6 r j)).toNat

theorem hits_at (v6 : FVec Ideal S200x10112 .f32) (v : EReal) (r : Fin 200) (l : Fin 128) : ∀ (n : ℕ) (h : n ≤ 79),
    hits v6 v (ix2 r l) n h = ∑ k ∈ Finset.range n, one v6 r v (128 * k + l.val) := by
  intro n
  induction n with
  | zero => intro h; rfl
  | succ n ih => intro h; rw [hits_succ, Finset.sum_range_succ, ih, raw_at]; rfl

theorem sum_blocks (w : ℕ) (f : ℕ → ℕ) : ∀ n : ℕ, ∑ j ∈ Finset.range (w * n), f j = ∑ k ∈ Finset.range n, ∑ l ∈ Finset.range w, f (w * k + l) := by
  intro n
  induction n with
  | zero => simp
  | succ n ih => rw [Nat.mul_succ, Finset.sum_range_add, Finset.sum_range_succ, ih]

/-- The columns of `n` whole slices of width `w` and of the first `m` columns of the next. -/
theorem sum_cols (w n m p : ℕ) (hw : w = m + p) (f : ℕ → ℕ) :
    ∑ l ∈ Finset.range w, ((∑ k ∈ Finset.range n, f (w * k + l)) + if l < m then f (w * n + l) else 0)
      = ∑ j ∈ Finset.range (w * n + m), f j := by
  rw [Finset.sum_add_distrib, Finset.sum_comm, ← sum_blocks w f n, Finset.sum_range_add f (w * n) m]
  refine congrArg _ ?_
  have h3 : ∑ l ∈ Finset.range (m + p), (if l < m then f (w * n + l) else 0) = ∑ j ∈ Finset.range m, f (w * n + j) := by
    rw [Finset.sum_range_add]
    have h2 : ∑ x ∈ Finset.range p, (if m + x < m then f (w * n + (m + x)) else 0) = 0 :=
      Finset.sum_eq_zero fun x _ => if_neg (by omega)
    rw [h2, Nat.add_zero]
    exact Finset.sum_congr rfl fun x hx => by rw [if_pos (Finset.mem_range.1 hx)]
  rw [← h3]
  exact Finset.sum_congr (by rw [hw]) fun _ _ => rfl

theorem lanes_eq (v6 : FVec Ideal S200x10112 .f32) (v : EReal) (hv : low < v) (r : Fin 200) :
    ∑ l : Fin 128, lane v6 v (ix2 r l) = ∑ j ∈ Finset.range 10000, one v6 r v j := by
  have hlow : ge v low = false := by unfold ge; exact decide_eq_false (not_le.2 hv)
  obtain ⟨g, hg⟩ : ∃ g : ℕ → ℕ, g = fun l : ℕ => (∑ k ∈ Finset.range 78, one v6 r v (128 * k + l))
      + if l < 16 then one v6 r v (9984 + l) else 0 := ⟨_, rfl⟩
  have h1 : ∀ l : Fin 128, lane v6 v (ix2 r l) = g l.val := by
    intro l
    unfold lane
    rw [hg]
    rw [hits_at, last_at]
    by_cases h : l.val < 16
    · simp only [if_pos h]; rfl
    · simp only [if_neg h, hlow]; rfl
  rw [Finset.sum_congr rfl fun l _ => h1 l, Fin.sum_univ_eq_sum_range g 128, hg]
  exact sum_cols 128 78 16 112 (by norm_num) (one v6 r v)

theorem wide_flag (j : ℕ) (hj : j < 10112) : IntOp.cmpi .slt (BitVec.ofNat 32 j) 10000#32 = BitVec.ofBool (decide (j < 10000)) := by
  unfold IntOp.cmpi
  congr 1
  rw [BitVec.slt, decide_eq_decide, BitVec.toInt_eq_toNat_of_lt (by simp; omega), BitVec.toInt_eq_toNat_of_lt (by decide)]
  simp
  omega

theorem wide_at (v6 : FVec Ideal S200x10112 .f32) (r : Fin 200) (j : Fin 10112) :
    wide v6 (ix2 r j) = if j.val < 10000 then col v6 r j.val else low := by
  have h : cmpi .slt (iota .tc S200x10112 32 [1] iota_S200x10112_d1_w32) (broadcast S200x10112 10000#32) (ix2 r j)
      = BitVec.ofBool (decide (j.val < 10000)) := by
    rw [← wide_flag j.val j.isLt]
    pointwise
  unfold wide
  rw [ValueIdx.select_apply, h, sel_iff]
  unfold col
  rw [dif_pos j.isLt]
  rfl

end Cert.KernelIdeal.Lane

end
-- ==== Proof.Kept.lean ====
/- The counts the kernel takes, its branch word, and what the block holds when the branch is not taken. -/
module

public import proofs.«01_k».proof.Proof.Cols
public import proofs.«01_k».proof.Proof.Reads

@[expose] public section

noncomputable section

namespace Cert.KernelIdeal.Lane

open Idealize.ShloMosaic Cert.KernelIdeal.Gen Cert.KernelIdeal.Net

theorem thr_at (v6 : FVec Ideal S200x10112 .f32) (r : Fin 200) (z : Fin 1) :
    thr v6 (ix2 r z) = max (mval v6 (ix2 r z) : EReal) tiny := rfl

theorem keep_at (t : C Ideal) (s : T Ideal) (r : Fin 200) (l : Fin 128) :
    keep t s (ix2 r l) = BitVec.ofBool (decide ((t (ix2 r 0) : EReal) ≤ s (ix2 r l))) := by
  have hb : broadcastTo S200x128 t broadcasts_S200x1_S200x128 (ix2 r l) = t (ix2 r 0) := by pointwise
  rw [← hb]; rfl

theorem zero_lit : Ideal.ofBits .f32 0x00000000#32 = (0 : EReal) := Ideal.ofBits_zero_f32

theorem ind_at (t : C Ideal) (s : T Ideal) (r : Fin 200) (l : Fin 128) :
    ind t s (ix2 r l) = (((ge (t (ix2 r 0)) (s (ix2 r l))).toNat : ℕ) : EReal) := by
  unfold ind
  rw [ValueIdx.select_apply, keep_at, sel_iff]
  unfold ge
  by_cases h : (t (ix2 r 0) : EReal) ≤ s (ix2 r l)
  · rw [if_pos h, decide_eq_true h]
    show Ideal.ofBits .f32 0x3F800000#32 = _
    rw [Ideal.ofBits_one_f32]; simp
  · rw [if_neg h, decide_eq_false h]
    show Ideal.ofBits .f32 0x00000000#32 = _
    rw [zero_lit]; simp

theorem cut_at (t : C Ideal) (s : T Ideal) (r : Fin 200) (l : Fin 128) :
    cut t s (ix2 r l) = if (t (ix2 r 0) : EReal) ≤ s (ix2 r l) then s (ix2 r l) else (0 : EReal) := by
  unfold cut
  rw [ValueIdx.select_apply, keep_at, sel_iff]
  congr 1
  exact zero_lit

theorem counts_at (v6 : FVec Ideal S200x10112 .f32) (t : C Ideal) (r : Fin 200) (l : Fin 128) :
    ∀ (n k : ℕ) (h : n + k ≤ 78) (acc : T Ideal), acc (ix2 r l) = ((hits v6 (t (ix2 r 0)) (ix2 r l) k (by omega) : ℕ) : EReal) →
      counts v6 t n k h acc (ix2 r l) = ((hits v6 (t (ix2 r 0)) (ix2 r l) (n + k) (by omega) : ℕ) : EReal) := by
  intro n
  induction n with
  | zero =>
    intro k h acc hacc
    have h0 : counts v6 t 0 k h acc = acc := rfl
    rw [h0, hacc]
    congr 2
    exact (Nat.zero_add k).symm
  | succ n ih =>
    intro k h acc hacc
    have h0 : counts v6 t (n + 1) k h acc = counts v6 t n (k + 1) (by omega) (addf acc (ind t (raw v6 k (by omega)))) := rfl
    rw [h0, ih (k + 1) (by omega) _ ?_]
    · congr 2
      omega
    · rw [hits_succ, Nat.cast_add, ← hacc, ← ind_at]
      rfl

theorem total_at (v6 : FVec Ideal S200x10112 .f32) (r : Fin 200) (l : Fin 128) :
    total v6 (ix2 r l) = ((lane v6 (thr v6 (ix2 r 0)) (ix2 r l) : ℕ) : EReal) := by
  unfold lane
  rw [Nat.cast_add, ← ind_at]
  have h := counts_at v6 (thr v6) r l 78 0 (by decide) (broadcast S200x128 (Scalar.ofBits .f32 0x00000000#32)) (by
    show Ideal.ofBits .f32 0x00000000#32 = _
    rw [zero_lit]; exact Nat.cast_zero.symm)
  rw [show (hits v6 (thr v6 (ix2 r 0)) (ix2 r l) 78 (by decide) : ℕ) = hits v6 (thr v6 (ix2 r 0)) (ix2 r l) (78 + 0) (by decide) from rfl, ← h]
  rfl

theorem lit21 : Ideal.ofBits .f32 0x41A80000#32 = ((21 : ℕ) : EReal) := by
  simp [Ideal.ofBits, Ideal.ieee]
  rw [← EReal.coe_mul, show (11010048 : ℝ) * (2 ^ 19)⁻¹ = 21 from by norm_num]
  norm_cast

theorem pay1_le (m : C Ideal) (acc : T Ideal) (h : (k1_pay1 m acc : EReal) ≤ 0) (r : Fin 200) :
    (∑ l : Fin 128, (acc (ix2 r l) : EReal)) ≤ ((21 : ℕ) : EReal) ∧ tiny ≤ m (ix2 r 0) := by
  revert h
  unfold k1_pay1
  pointwise
  intro h
  have h2 := (Finset.fold_max_le (0 : EReal)).1 h
  have h3 := h2.2 (r, 0) (Finset.mem_univ _)
  simp only [] at h3
  have h4 : ¬ (Ideal.ofBits FTy.f32 1101529088#32 < ∑ l : Fin 128, (acc (ix2 r l) : EReal)) ∧ ¬ ((m (ix2 r 0) : EReal) < Ideal.ofBits FTy.f32 7136238#32) := by
    by_contra hc
    have h5 : IntOp.ori (BitVec.ofBool (decide (Ideal.ofBits FTy.f32 1101529088#32 < ∑ l : Fin 128, (acc (ix2 r l) : EReal))))
        (BitVec.ofBool (decide ((m (ix2 r 0) : EReal) < Ideal.ofBits FTy.f32 7136238#32))) = 1#1 := by
      by_cases h6 : Ideal.ofBits FTy.f32 1101529088#32 < ∑ l : Fin 128, (acc (ix2 r l) : EReal)
      · rw [decide_eq_true h6]
        cases decide ((m (ix2 r 0) : EReal) < Ideal.ofBits FTy.f32 7136238#32) <;> rfl
      · have h7 : (m (ix2 r 0) : EReal) < Ideal.ofBits FTy.f32 7136238#32 := by
          by_contra h8; exact hc ⟨h6, h8⟩
        rw [decide_eq_true h7]
        cases decide (Ideal.ofBits FTy.f32 1101529088#32 < ∑ l : Fin 128, (acc (ix2 r l) : EReal)) <;> rfl
    rw [h5] at h3
    exact absurd h3 (not_le.2 zero_lt_one)
  exact ⟨lit21 ▸ not_lt.1 h4.1, not_lt.1 h4.2⟩

/-- When the branch is not taken every row keeps at most 21 columns and its threshold is the value left on top. -/
theorem flag_off (v6 : FVec Ideal S200x10112 .f32) (h : flag (mval v6) (total v6) ≠ 1#1) (r : Fin 200) :
    (∑ l : Fin 128, lane v6 (mval v6 (ix2 r 0)) (ix2 r l)) ≤ 21 ∧ tiny ≤ mval v6 (ix2 r 0) ∧ thr v6 (ix2 r 0) = mval v6 (ix2 r 0) := by
  have h1 : (k1_pay1 (mval v6) (total v6) : EReal) ≤ 0 := by
    by_contra hc
    apply h
    have h2 : Scalar.cmpf .ogt (k1_pay1 (mval v6) (total v6)) (Scalar.ofBits (F := Ideal) .f32 0x00000000#32) = 1#1 := by
      show BitVec.ofBool (decide (Ideal.ofBits .f32 0x00000000#32 < (k1_pay1 (mval v6) (total v6) : EReal))) = 1#1
      rw [zero_lit, decide_eq_true (not_le.1 hc)]
      rfl
    unfold flag
    rw [h2]
    rfl
  obtain ⟨h2, h3⟩ := pay1_le _ _ h1 r
  have h4 : thr v6 (ix2 r 0) = mval v6 (ix2 r 0) := by rw [thr_at]; exact max_eq_left h3
  refine ⟨?_, h3, h4⟩
  rw [Finset.sum_congr rfl fun l _ => total_at v6 r l, ← Nat.cast_sum, h4] at h2
  exact_mod_cast h2

/-- What a block holds when the branch is not taken. -/
theorem passed_at (v6 : FVec Ideal S200x10112 .f32) (r : Fin 200) (j : Fin 10000) :
    Frame.passed v6 (ix2 r j) = if (thr v6 (ix2 r 0) : EReal) ≤ col v6 r j.val then col v6 r j.val else (0 : EReal) := by
  have hj := j.isLt
  by_cases h : j.val < 9984
  · have h1 : Frame.passed v6 (ix2 r j) = cut (thr v6) (raw v6 (j.val / 128) (by omega)) (ix2 r ⟨j.val % 128, Nat.mod_lt _ (by decide)⟩) := dif_pos h
    rw [h1, cut_at, raw_at]
    rw [show 128 * (j.val / 128) + (⟨j.val % 128, Nat.mod_lt _ (by decide)⟩ : Fin 128).val = j.val from Nat.div_add_mod _ _]
  · have h1 : Frame.passed v6 (ix2 r j) = rest v6 (ix2 r ⟨j.val - 9984, by omega⟩) := dif_neg h
    have h2 : rest v6 (ix2 r ⟨j.val - 9984, by omega⟩) = cut (thr v6) (last v6) (ix2 r ⟨j.val - 9984, by omega⟩) := by
      unfold rest
      pointwise
    rw [h1, h2, cut_at, last_at]
    have h3 : (⟨j.val - 9984, by omega⟩ : Fin 128).val < 16 := by show j.val - 9984 < 16; omega
    rw [if_pos h3, show 9984 + (⟨j.val - 9984, by omega⟩ : Fin 128).val = j.val from by show 9984 + (j.val - 9984) = j.val; omega]

end Cert.KernelIdeal.Lane

end
-- ==== Proof.RefVal.lean ====
/- The reference's result as a chain of named values, and the precondition over the same chain. -/
module

public import proofs.«01_k».proof.Proof.RefRun
public import proofs.«01_k».proof.Proof.PreFacts

@[expose] public section

noncomputable section

namespace Cert.ReferenceIdeal.Value

open Cert.ReferenceIdeal Cert.ReferenceIdeal.Gen Idealize.ShloMosaic Idealize.ShloMosaic.TcCoe Idealize.SL.Sem

/-- A linear layer. -/
def layer (x : FVec Ideal S10000x256 .f32) (w : FVec Ideal S256x256 .f32) (b : FVec Ideal S256 .f32) : FVec Ideal S10000x256 .f32 :=
  addf (Host.dotGeneral dot_S10000x256_S256x256_S10000x256_1_0_0_1_n_n none x (transpose S256x256 [1, 0] w transposes_S256x256_S256x256_1_0))
    (broadcastInDim S10000x256 ![0, 1] bcast_S1x256_S10000x256_0_1 (broadcastInDim S1x256 ![1] bcast_S256_S1x256_1 b))

/-- Both layers. -/
def net (a0 : FVec Ideal S10000x256 .f32) (a1 : FVec Ideal S256x256 .f32) (a2 : FVec Ideal S256 .f32) (a3 : FVec Ideal S256x256 .f32) (a4 : FVec Ideal S256 .f32) :
    FVec Ideal S10000x256 .f32 :=
  layer (maximumf (layer a0 a1 a2) (broadcastInDim S10000x256 ![] bcast_S_S10000x256 (constant S_ .f32 0x00000000#32))) a3 a4

/-- Each row over its length. -/
def unit (x : FVec Ideal S10000x256 .f32) : FVec Ideal S10000x256 .f32 :=
  Host.divf x (broadcastInDim S10000x256 ![0, 1] bcast_S10000x1_S10000x256_0_1
    (maximumf (broadcastInDim S10000x1 ![] bcast_S_S10000x1 (id (constant S_ .f32 0x2B8CBCCC#32)))
      (Host.sqrt (broadcastInDim S10000x1 ![0] bcast_S10000_S10000x1_0
        (Host.reduceAdd (mulf x x) (constant S_ .f32 0x00000000#32) reducesTo_S10000x256_S10000_d1 h_S_)))))

/-- The inner products of the rows. -/
def adj (e : FVec Ideal S10000x256 .f32) : FVec Ideal S10000x10000 .f32 :=
  Host.dotGeneral dot_S10000x256_S256x10000_S10000x10000_1_0_0_1_n_n none e (transpose S256x10000 [1, 0] e transposes_S10000x256_S256x10000_1_0)

/-- The columns of the twenty-one greatest. -/
def cols (x : FVec Ideal S10000x10000 .f32) : IVec S10000x21 32 :=
  (Host.topK S10000x21 1 (FloatOps.cmpfTotal .gt) x sliceFits_S10000x10000_S10000x21).2

/-- The columns as the scatter takes them, -/
def wrapped (i : IVec S10000x21 32) : IVec S10000x21 32 :=
  select (cmpi .slt i (broadcastInDim S10000x21 ![] bcast_S_S10000x21 (constantI S_ 32 0#32)))
    (addi i (broadcastInDim S10000x21 ![] bcast_S_S10000x21 (constantI S_ 32 10000#32))) i

/-- the rows, -/
def rows : IVec S10000x1 32 :=
  select (cmpi .slt (broadcastInDim S10000x1 ![0] bcast_S10000_S10000x1_0 (iotaInDim S10000 32 0)) (broadcastInDim S10000x1 ![] bcast_S_S10000x1 (constantI S_ 32 0#32)))
    (addi (broadcastInDim S10000x1 ![0] bcast_S10000_S10000x1_0 (iotaInDim S10000 32 0)) (broadcastInDim S10000x1 ![] bcast_S_S10000x1 (constantI S_ 32 10000#32)))
    (broadcastInDim S10000x1 ![0] bcast_S10000_S10000x1_0 (iotaInDim S10000 32 0))

/-- and the pairs. -/
def pairs (i : IVec S10000x21 32) : IVec S10000x21x2 32 :=
  concatenate S10000x21x2 2 [⟨S10000x21x1, (broadcastInDim S10000x21x1 ![0, 1] bcast_S10000x21_S10000x21x1_0_1 (broadcastInDim S10000x21 ![0, 1] bcast_S10000x1_S10000x21_0_1 rows))⟩,
    ⟨S10000x21x1, (broadcastInDim S10000x21x1 ![0, 1] bcast_S10000x21_S10000x21x1_0_1 (wrapped i))⟩] concatenates_S10000x21x1_S10000x21x1_S10000x21x2_d2

/-- One at each pair, zero elsewhere. -/
def mask (i : IVec S10000x21 32) : FVec Ideal S10000x10000 .f32 :=
  Host.scatter scatter_S10000x10000_S10000x21x2_S10000x21_n_01_01_2 (fun _ b => b)
    (broadcastInDim S10000x10000 ![] bcast_S_S10000x10000 (constant S_ .f32 0x00000000#32)) (pairs i)
    (broadcastInDim S10000x21 ![] bcast_S_S10000x21 (constant S_ .f32 0x3F800000#32))

/-- The entries kept, floored at zero. -/
def kept (x : FVec Ideal S10000x10000 .f32) : FVec Ideal S10000x10000 .f32 :=
  maximumf (mulf x (mask (cols x))) (broadcastInDim S10000x10000 ![] bcast_S_S10000x10000 (constant S_ .f32 0x00000000#32))

set_option maxRecDepth 8192 in
theorem res_eq (m : (ℓ : Loc nD τ sig) → Buf (Elt Ideal) ℓ) (c : Dev nD) :
    res_main_v37 m c = kept (adj (unit (net (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))))) := by
  unfold res_main_v37 kept mask pairs wrapped cols rows adj unit net layer
  rfl

/-- The greatest twenty-two of each row. -/
def vals (x : FVec Ideal S10000x10000 .f32) : FVec Ideal Pre_distinct_neighbours.S10000x22 .f32 :=
  (Host.topK Pre_distinct_neighbours.S10000x22 1 (FloatOps.cmpfTotal .gt) x Pre_distinct_neighbours.sides.sliceFits_S10000x10000_S10000x22).1

/-- Each of the first twenty-one against the next. -/
def apart (v : FVec Ideal Pre_distinct_neighbours.S10000x22 .f32) : IVec S10000x21 1 :=
  ori (cmpf .olt (extractStridedSlice S10000x21 ![0, 1] v Pre_distinct_neighbours.sides.slices_S10000x22_S10000x21_0_1)
      (extractStridedSlice S10000x21 ![0, 0] v Pre_distinct_neighbours.sides.slices_S10000x22_S10000x21_0_0))
    (cmpf .ole (extractStridedSlice S10000x21 ![0, 1] v Pre_distinct_neighbours.sides.slices_S10000x22_S10000x21_0_1)
      (broadcastInDim S10000x21 ![] Pre_distinct_neighbours.sides.bcast_S_S10000x21 (constant S_ .f32 0x00000000#32)))

theorem pre_eq (a0 : FVec Ideal S10000x256 .f32) (a1 : FVec Ideal S256x256 .f32) (a2 : FVec Ideal S256 .f32) (a3 : FVec Ideal S256x256 .f32) (a4 : FVec Ideal S256 .f32) :
    Pre_distinct_neighbours.fn (F := Ideal) a0 a1 a2 a3 a4
      = Host.reduce IntOp.andi (apart (vals (adj (unit (net a0 a1 a2 a3 a4))))) (constantI S_ 1 1#1)
          Pre_distinct_neighbours.sides.reducesTo_S10000x21_S_d0_1 Pre_distinct_neighbours.sides.h_S_ := by
  unfold Pre_distinct_neighbours.fn Pre_distinct_neighbours.fn_part1 Pre_distinct_neighbours.fn_relu Pre_distinct_neighbours.fn_norm
    Pre_distinct_neighbours.fn_clip apart vals adj unit net layer
  rfl

end Cert.ReferenceIdeal.Value

end
-- ==== Proof.EmbEq.lean ====
/- The embedding region's rows are the reference's. -/
module

public import proofs.«01_k».proof.Proof.Kept
public import proofs.«01_k».proof.Proof.RefVal

@[expose] public section

noncomputable section

namespace Cert.KernelIdeal.Match

open Idealize.ShloMosaic Cert.KernelIdeal.Gen Cert.KernelIdeal.Net

/-- The kernel's linear layer. -/
def lin (x : FVec Ideal S10000x256 .f32) (w : FVec Ideal S256x256 .f32) (b : FVec Ideal S1x256 .f32) : FVec Ideal S10000x256 .f32 :=
  addf (matmul dot_S10000x256_S256x256_S10000x256_1_1_0_0_n_n none (truncf .bf16 x bitsLt_bf16_f32) (truncf .bf16 w bitsLt_bf16_f32)
    (constant S10000x256 .f32 0x00000000#32)) (broadcastTo S10000x256 (shapeCast S1x256 b shapeCasts_S1x256_S1x256) broadcasts_S1x256_S10000x256)

/-- The kernel's rows over their lengths. -/
def nrm (x : FVec Ideal S10000x256 .f32) : FVec Ideal S10000x256 .f32 :=
  divf x (broadcastTo S10000x256 (maximumf (sqrt (shapeCast S10000x1 (multiReduction .add [1] S10000 (mulf x x) 0x00000000#32 reduces_S10000x256_S10000 (.inl rfl) rfl) shapeCasts_S10000_S10000x1))
    (broadcast S10000x1 (Scalar.ofBits .f32 0x2B8CBCCC#32))) broadcasts_S10000x1_S10000x256)

theorem pay1_eq (v0 : FVec Ideal S10000x256 .f32) (v1 : FVec Ideal S256x256 .f32) (v5 : FVec Ideal S1x256 .f32) (v11 : FVec Ideal S256x256 .f32) (v15 : FVec Ideal S1x256 .f32) :
    k0_pay1 v0 v1 v5 v11 v15 = nrm (lin (maximumf (lin v0 v1 v5) (broadcast S10000x256 (Scalar.ofBits .f32 0x00000000#32))) v11 v15) := rfl

theorem lin_eq (x : FVec Ideal S10000x256 .f32) (w : FVec Ideal S256x256 .f32) (b : FVec Ideal S1x256 .f32) (a : FVec Ideal ReferenceIdeal.S256 .f32)
    (h : ∀ k : Fin 256, b (ix2 0 k) = a (ix1 k)) : lin x w b = ReferenceIdeal.Value.layer x w a := by
  funext i
  rw [eq_ix2 i]
  generalize (i 0 : Fin 10000) = r
  generalize (i 1 : Fin 256) = k
  have h1 : lin x w b (ix2 r k) = (0 + ∑ q : Fin 256, (x (ix2 r q) : EReal) * w (ix2 k q)) + b (ix2 0 k) := by
    unfold lin
    pointwise
  have h2 : ReferenceIdeal.Value.layer x w a (ix2 r k) = (∑ q : Fin 256, (x (ix2 r q) : EReal) * w (ix2 k q)) + a (ix1 k) := by
    unfold ReferenceIdeal.Value.layer
    pointwise
  rw [h1, h2, h k, zero_add]

theorem nrm_eq (x : FVec Ideal S10000x256 .f32) : nrm x = ReferenceIdeal.Value.unit x := by
  funext i
  rw [eq_ix2 i]
  generalize (i 0 : Fin 10000) = r
  generalize (i 1 : Fin 256) = k
  unfold nrm ReferenceIdeal.Value.unit
  pointwise
  exact congrArg (Ideal.div (x (ix2 r k))) (max_comm _ _)

end Cert.KernelIdeal.Match

end
-- ==== Proof.Blocks.lean ====
/- The regions' blocks as parts of the arrays. -/
module

public import proofs.«01_k».proof.Proof.KRun
public import Idealize.ShloMosaic.Lib.Pipeline.ValueKit.Geometry
public import proofs.«01_k».proof.Proof.EmbEq

@[expose] public section

noncomputable section

namespace Cert.KernelIdeal.Match

open Idealize.ShloMosaic Idealize.ShloMosaic.TcCoe Cert.KernelIdeal.Gen Cert.KernelIdeal.Net Cert.KernelIdeal.Frame

variable (m : (ℓ : Loc nD τ sig) → Buf (Elt Ideal) ℓ)

theorem bias1 (c : Dev nD) (k : Fin 256) : V1 m c main_v0 (ix2 (0 : Fin 1) k) = (m ((c : Thread nD τ).loc main_arg2) : FVec Ideal ReferenceIdeal.S256 .f32) (ix1 k) := by
  have h : V1 m c main_v0 = shapeCast S1x256 (m ((c : Thread nD τ).loc main_arg2) : FVec Ideal S256 .f32) shapeCasts_S256_S1x256 := by
    simp only [V1, StableHlo.after_cons, StableHlo.after_nil, hostOps0]
    rfl
  rw [h]
  pointwise

theorem bias2 (c : Dev nD) (k : Fin 256) : V1 m c main_v1 (ix2 (0 : Fin 1) k) = (m ((c : Thread nD τ).loc main_arg4) : FVec Ideal ReferenceIdeal.S256 .f32) (ix1 k) := by
  have h : V1 m c main_v1 = shapeCast S1x256 (m ((c : Thread nD τ).loc main_arg4) : FVec Ideal S256 .f32) shapeCasts_S256_S1x256 := by
    simp only [V1, StableHlo.after_cons, StableHlo.after_nil, hostOps0]
    rfl
  rw [h]
  pointwise

/-- Where nothing is cut every place of a block is moved. -/
theorem moved {G : Pipeline.Grid} (w : Pipeline.Window sig G) (i : G.Coords) (h : ∀ a, w.clip i a = none) (y : w.block.Idx) : w.moved i y = true :=
  (w.moved_iff _ y).mpr fun a => by have := (y a).isLt; unfold Pipeline.Window.xsize; rw [h a]; exact this

theorem index0_0 : ∀ t : Fin grid0.N, win0_0.index t = ![0, 0] := by decide +kernel

theorem in0_0 (V : Dev nD → Valuation τ sig (Elt Ideal)) (c : Dev nD) (t : Fin cfg0.N) : in0 V c 0 t = V c (Pipeline.arrRef spec0 0) := by
  funext y
  refine (congrFun (Pipeline.heldIn_of_fetch (fun w => V c (Pipeline.arrRef spec0 w)) 0 t (fetch0_0 t)) y).trans ?_
  unfold Pipeline.Window.fill
  rw [dif_pos (moved (cfg0.win 0) _ (fun _ => rfl) y)]
  refine congrArg (V c (Pipeline.arrRef spec0 0)) (?_ : ((cfg0.win 0).blk t).view.emb _ = y)
  blk_ext [index0_0]

theorem index0_1 : ∀ t : Fin grid0.N, win0_1.index t = ![0, 0] := by decide +kernel

theorem in0_1 (V : Dev nD → Valuation τ sig (Elt Ideal)) (c : Dev nD) (t : Fin cfg0.N) : in0 V c 1 t = V c (Pipeline.arrRef spec0 1) := by
  funext y
  refine (congrFun (Pipeline.heldIn_of_fetch (fun w => V c (Pipeline.arrRef spec0 w)) 1 t (fetch0_1 t)) y).trans ?_
  unfold Pipeline.Window.fill
  rw [dif_pos (moved (cfg0.win 1) _ (fun _ => rfl) y)]
  refine congrArg (V c (Pipeline.arrRef spec0 1)) (?_ : ((cfg0.win 1).blk t).view.emb _ = y)
  blk_ext [index0_1]

theorem index0_2 : ∀ t : Fin grid0.N, win0_2.index t = ![0, 0] := by decide +kernel

theorem in0_2 (V : Dev nD → Valuation τ sig (Elt Ideal)) (c : Dev nD) (t : Fin cfg0.N) : in0 V c 2 t = V c (Pipeline.arrRef spec0 2) := by
  funext y
  refine (congrFun (Pipeline.heldIn_of_fetch (fun w => V c (Pipeline.arrRef spec0 w)) 2 t (fetch0_2 t)) y).trans ?_
  unfold Pipeline.Window.fill
  rw [dif_pos (moved (cfg0.win 2) _ (fun _ => rfl) y)]
  refine congrArg (V c (Pipeline.arrRef spec0 2)) (?_ : ((cfg0.win 2).blk t).view.emb _ = y)
  blk_ext [index0_2]

theorem index0_3 : ∀ t : Fin grid0.N, win0_3.index t = ![0, 0] := by decide +kernel

theorem in0_3 (V : Dev nD → Valuation τ sig (Elt Ideal)) (c : Dev nD) (t : Fin cfg0.N) : in0 V c 3 t = V c (Pipeline.arrRef spec0 3) := by
  funext y
  refine (congrFun (Pipeline.heldIn_of_fetch (fun w => V c (Pipeline.arrRef spec0 w)) 3 t (fetch0_3 t)) y).trans ?_
  unfold Pipeline.Window.fill
  rw [dif_pos (moved (cfg0.win 3) _ (fun _ => rfl) y)]
  refine congrArg (V c (Pipeline.arrRef spec0 3)) (?_ : ((cfg0.win 3).blk t).view.emb _ = y)
  blk_ext [index0_3]

theorem index0_4 : ∀ t : Fin grid0.N, win0_4.index t = ![0, 0] := by decide +kernel

theorem in0_4 (V : Dev nD → Valuation τ sig (Elt Ideal)) (c : Dev nD) (t : Fin cfg0.N) : in0 V c 4 t = V c (Pipeline.arrRef spec0 4) := by
  funext y
  refine (congrFun (Pipeline.heldIn_of_fetch (fun w => V c (Pipeline.arrRef spec0 w)) 4 t (fetch0_4 t)) y).trans ?_
  unfold Pipeline.Window.fill
  rw [dif_pos (moved (cfg0.win 4) _ (fun _ => rfl) y)]
  refine congrArg (V c (Pipeline.arrRef spec0 4)) (?_ : ((cfg0.win 4).blk t).view.emb _ = y)
  blk_ext [index0_4]

theorem index1_0 : ∀ t : Fin grid1.N, win1_0.index t = ![t.val, 0] := by decide +kernel

theorem in1_0 (V : Dev nD → Valuation τ sig (Elt Ideal)) (c : Dev nD) (t : Fin cfg1.N) (y : S200x256.Idx) (h : 200 * t.val + (y 0).val < 10112) :
    in1 V c 0 t y = (V c main_v2 : FVec Ideal S10112x256 .f32) (ix2 ⟨200 * t.val + (y 0).val, h⟩ (y 1)) := by
  refine (congrFun (Pipeline.heldIn_of_fetch (fun w => V c (Pipeline.arrRef spec1 w)) 0 t (fetch1_0 t)) y).trans ?_
  unfold Pipeline.Window.fill
  rw [dif_pos (moved (cfg1.win 0) _ (clip1_0 _) y)]
  refine congrArg (V c (Pipeline.arrRef spec1 0)) (?_ : ((cfg1.win 0).blk t).view.emb _ = _)
  blk_ext [index1_0]

theorem index1_1 : ∀ t : Fin grid1.N, win1_1.index t = ![0, 0] := by decide +kernel

theorem place1_1 (t : Fin cfg1.N) (y : (cfg1.win 1).block.Idx) (h : ∀ a, (y a).val < (cfg1.win 1).xsize (cfg1.grid.coords t) a) :
    ((cfg1.win 1).blk t).view.emb (fun a => ⟨(y a).val, h a⟩) = y := by
  blk_ext [index1_1]

theorem in1_1 (V : Dev nD → Valuation τ sig (Elt Ideal)) (c : Dev nD) (n : ℕ) (hn : n < cfg1.N) :
    Pipeline.heldIn cfg1 (c := c) (fun w => V c (Pipeline.arrRef spec1 w)) 1 n hn = V c (Pipeline.arrRef spec1 1) := by
  induction n with
  | zero =>
    funext y
    refine (congrFun (Pipeline.heldIn_of_fetch (fun w => V c (Pipeline.arrRef spec1 w)) 1 ⟨0, hn⟩ ((fetch1_1 ⟨0, hn⟩).mpr rfl)) y).trans ?_
    unfold Pipeline.Window.fill
    rw [dif_pos (moved (cfg1.win 1) _ (fun _ => rfl) y)]
    exact congrArg (V c (Pipeline.arrRef spec1 1)) (place1_1 ⟨0, hn⟩ y _)
  | succ n ih =>
    have h50 : n + 1 < 50 := hn
    refine (Pipeline.heldIn_of_not_fetch (fun w => V c (Pipeline.arrRef spec1 w)) 1 n hn ?_).trans (ih (Nat.lt_of_succ_lt hn))
    refine Bool.eq_false_iff.mpr fun h => ?_
    have := (fetch1_1 ⟨n + 1, hn⟩).mp h
    simp only at this
    omega

/-- The reference's embedding of this start. -/
def want (c : Dev nD) : FVec Ideal S10000x256 .f32 :=
  ReferenceIdeal.Value.unit (ReferenceIdeal.Value.net (m ((c : Thread nD τ).loc main_arg0)) (m ((c : Thread nD τ).loc main_arg1))
    (m ((c : Thread nD τ).loc main_arg2)) (m ((c : Thread nD τ).loc main_arg3)) (m ((c : Thread nD τ).loc main_arg4)))

theorem rows_eq (c : Dev nD) : k0_pay1 (F := Ideal) (V1 m c main_arg0) (V1 m c main_arg1) (V1 m c main_v0) (V1 m c main_arg3) (V1 m c main_v1) = want m c := by
  rw [pay1_eq, lin_eq _ _ _ _ (bias1 m c), lin_eq _ _ _ _ (bias2 m c), nrm_eq,
    V1_of m c main_arg0 (by decide), V1_of m c main_arg1 (by decide), V1_of m c main_arg3 (by decide)]
  unfold want ReferenceIdeal.Value.net
  congr 2

theorem after5 (c : Dev nD) (t : Fin cfg0.N) :
    (dat0 (V1 m) c).after 5 t = emb (F := Ideal) (V1 m c main_arg0) (V1 m c main_arg1) (V1 m c main_v0) (V1 m c main_arg3) (V1 m c main_v1) := by
  have h : (dat0 (V1 m) c).after 5 t = emb (F := Ideal) (in0 (V1 m) c 0 t) (in0 (V1 m) c 1 t) (in0 (V1 m) c 2 t) (in0 (V1 m) c 3 t) (in0 (V1 m) c 4 t) := rfl
  rw [h, in0_0, in0_1, in0_2, in0_3, in0_4]

theorem emb2_eq (c : Dev nD) : emb2 m c = emb (F := Ideal) (V1 m c main_arg0) (V1 m c main_arg1) (V1 m c main_v0) (V1 m c main_arg3) (V1 m c main_v1) := by
  funext i
  refine ((dat0 (V1 m) c).arrAt_emb_eq_after_last 5 ⟨0, by decide⟩ (by decide +kernel) i).trans ?_
  exact congrFun (after5 m c _) _

/-- The embedding array's upper rows are the reference's embedding. -/
theorem emb2_at (c : Dev nD) (r : Fin 10000) (k : Fin 256) :
    (emb2 m c : FVec Ideal S10112x256 .f32) (ix2 ⟨r.val, Nat.lt_of_lt_of_le r.isLt (by decide)⟩ k) = want m c (ix2 r k) := by
  rw [emb2_eq, ← rows_eq]
  exact dif_pos r.isLt

theorem U2_v2 (c : Dev nD) : U2 m c main_v2 = emb2 m c := Function.update_self (Proc.devRef .tc main_v2 : DevRef τ sig) (emb2 m c) (V1 m c)

/-- The reference's products of rows. -/
def prods (c : Dev nD) : FVec Ideal ReferenceIdeal.S10000x10000 .f32 := ReferenceIdeal.Value.adj (want m c)

theorem pay6_at (A : FVec Ideal S200x256 .f32) (B : FVec Ideal S10112x256 .f32) (r : Fin 200) (j : Fin 10112) :
    k1_pay6 (F := Ideal) A B (ix2 r j) = 0 + ∑ q : Fin 256, (A (ix2 r q) : EReal) * B (ix2 j q) := by
  unfold k1_pay6
  pointwise

/-- A strip's products are the reference's. -/
theorem strip_at (c : Dev nD) (t : Fin cfg1.N) (r : Fin 200) (R j : Fin 10000) (hR : R.val = 200 * t.val + r.val) :
    k1_pay6 (F := Ideal) (in1 (U2 m) c 0 t) (in1 (U2 m) c 1 t) (ix2 r ⟨j.val, Nat.lt_of_lt_of_le j.isLt (by decide)⟩) = prods m c (ix2 R j) := by
  have hA : ∀ q : Fin 256, in1 (U2 m) c 0 t (ix2 r q) = want m c (ix2 R q) := fun q => by
    have h := in1_0 (U2 m) c t (ix2 r q) (by have := R.isLt; show 200 * t.val + r.val < 10112; omega)
    rw [h, U2_v2, ← emb2_at]
    refine congrArg (fun p => (emb2 m c : FVec Ideal S10112x256 .f32) (ix2 p q)) (Fin.ext hR.symm)
  have hB : ∀ q : Fin 256, in1 (U2 m) c 1 t (ix2 (⟨j.val, Nat.lt_of_lt_of_le j.isLt (by decide)⟩ : Fin 10112) q) = want m c (ix2 j q) := fun q => by
    rw [← emb2_at]
    exact congrFun ((in1_1 (U2 m) c t.val t.isLt).trans (U2_v2 m c)) _
  revert hA hB
  generalize in1 (U2 m) c 0 t = A
  generalize in1 (U2 m) c 1 t = B
  generalize (⟨j.val, Nat.lt_of_lt_of_le j.isLt (by decide)⟩ : Fin 10112) = j'
  intro hA hB
  have h2 : prods m c (ix2 R j) = ∑ q : Fin 256, (want m c (ix2 R q) : EReal) * want m c (ix2 j q) := by
    unfold prods ReferenceIdeal.Value.adj
    pointwise
  refine (pay6_at A B r j').trans ?_
  rw [h2, zero_add]
  exact Finset.sum_congr rfl fun q _ => by rw [hA q, hB q]

end Cert.KernelIdeal.Match

end
-- ==== Proof.Row.lean ====
/- One row of a block against its values in decreasing order: the first twenty-one, floored at zero, stay where they are
   and everything else is zero — by the threshold when the branch is not taken, by the descent when it is. -/
module

public import proofs.«01_k».proof.Proof.Kept

@[expose] public section

noncomputable section

namespace Cert.KernelIdeal.Lane

open Idealize.ShloMosaic Cert.KernelIdeal.Gen Cert.KernelIdeal.Net

theorem rmax_at (x : FVec Ideal S200x10112 .f32) (r : Fin 200) :
    rmax x (ix2 r 0) = (Finset.univ : Finset (Fin 10112)).fold max (⊥ : EReal) (fun j => x (ix2 r j)) := by
  unfold rmax
  pointwise
  rw [bot_lit]

theorem below_at (x : FVec Ideal S200x10112 .f32) (t : C Ideal) (r : Fin 200) :
    below x t (ix2 r 0) = (Finset.univ : Finset (Fin 10112)).fold max (⊥ : EReal)
      (fun j => if (x (ix2 r j) : EReal) < t (ix2 r 0) then x (ix2 r j) else low) := by
  have hb : ∀ j : Fin 10112, broadcastTo S200x10112 t broadcasts_S200x1_S200x10112 (ix2 r j) = t (ix2 r 0) := by
    intro j; pointwise
  unfold below
  rw [rmax_at]
  refine congrArg (fun f => Finset.fold max (⊥ : EReal) f Finset.univ) (funext fun j => ?_)
  rw [ValueIdx.select_apply]
  have hc : cmpf .olt x (broadcastTo S200x10112 t broadcasts_S200x1_S200x10112) (ix2 r j)
      = BitVec.ofBool (decide ((x (ix2 r j) : EReal) < t (ix2 r 0))) := by
    rw [← hb j]; rfl
  rw [hc, sel_iff]
  rfl

theorem descend_succ (x : FVec Ideal S200x10112 .f32) (n : ℕ) : descend x (n + 1) = below x (descend x n) := rfl

theorem fallback_at (v6 : FVec Ideal S200x10112 .f32) (r : Fin 200) (j : Fin 10000) :
    fallback v6 (ix2 r j) = if (descend (wide v6) 20 (ix2 r 0) : EReal) ≤ col v6 r j.val ∧ 0 < col v6 r j.val then col v6 r j.val else (0 : EReal) := by
  have hj := j.isLt
  obtain ⟨d, hd⟩ : ∃ d : C Ideal, d = descend (wide v6) 20 := ⟨_, rfl⟩
  obtain ⟨x, hx⟩ : ∃ x : FVec Ideal S200x10112 .f32, x = wide v6 := ⟨_, rfl⟩
  have hw : x (ix2 r ⟨j.val, by omega⟩) = col v6 r j.val := by
    rw [hx, wide_at, if_pos hj]
  have hb : broadcastTo S200x10112 d broadcasts_S200x1_S200x10112 (ix2 r ⟨j.val, by omega⟩) = d (ix2 r 0) := by pointwise
  have h0 : fallback v6 (ix2 r j) = select (andi (cmpf .oge x (broadcastTo S200x10112 d broadcasts_S200x1_S200x10112))
        (cmpf .ogt x (broadcast S200x10112 (Scalar.ofBits .f32 0x00000000#32)))) x (broadcast S200x10112 (Scalar.ofBits .f32 0x00000000#32))
        (ix2 r ⟨j.val, by omega⟩) := by
    unfold fallback
    rw [← hd, ← hx]
    pointwise
  have hc : andi (cmpf .oge x (broadcastTo S200x10112 d broadcasts_S200x1_S200x10112))
        (cmpf .ogt x (broadcast S200x10112 (Scalar.ofBits .f32 0x00000000#32))) (ix2 r ⟨j.val, by omega⟩)
      = BitVec.ofBool (decide ((d (ix2 r 0) : EReal) ≤ col v6 r j.val ∧ 0 < col v6 r j.val)) := by
    show BitVec.ofBool (decide ((broadcastTo S200x10112 d broadcasts_S200x1_S200x10112 (ix2 r ⟨j.val, by omega⟩) : EReal) ≤ x (ix2 r ⟨j.val, by omega⟩)))
      &&& BitVec.ofBool (decide (Ideal.ofBits .f32 0x00000000#32 < (x (ix2 r ⟨j.val, by omega⟩) : EReal))) = _
    rw [hb, hw, zero_lit, BitVec.ofBool_and_ofBool, ← Bool.decide_and]
  have hz : broadcast S200x10112 (Scalar.ofBits .f32 0x00000000#32 : Ideal .f32) (ix2 r ⟨j.val, by omega⟩) = (0 : EReal) := zero_lit
  rw [h0, ValueIdx.select_apply, hc, hw, hz]
  rw [sel_iff, ← hd]

/-- A row's values in decreasing order: `s` names the column of each place. -/
structure Order (v6 : FVec Ideal S200x10112 .f32) (r : Fin 200) (s : Fin 10000 → Fin 10000) : Prop where
  inj : Function.Injective s
  surj : Function.Surjective s
  anti : ∀ i j : Fin 10000, i ≤ j → col v6 r (s j).val ≤ col v6 r (s i).val

/-- The first twenty-two values differ, as long as they are positive. -/
def Apart (v6 : FVec Ideal S200x10112 .f32) (r : Fin 200) (s : Fin 10000 → Fin 10000) : Prop :=
  ∀ k : ℕ, ∀ h : k < 21, col v6 r (s ⟨k + 1, by omega⟩).val < col v6 r (s ⟨k, by omega⟩).val ∨ col v6 r (s ⟨k + 1, by omega⟩).val ≤ 0

variable {v6 : FVec Ideal S200x10112 .f32} {r : Fin 200} {s : Fin 10000 → Fin 10000}

theorem wide_real (v6 : FVec Ideal S200x10112 .f32) (r : Fin 200) (j : Fin 10000) :
    wide v6 (ix2 r ⟨j.val, j.isLt.trans (by norm_num)⟩) = col v6 r j.val := by rw [wide_at, if_pos j.isLt]

theorem wide_cases (hs : Order v6 r s) (j : Fin 10112) : (∃ k : Fin 10000, wide v6 (ix2 r j) = col v6 r (s k).val) ∨ wide v6 (ix2 r j) = low := by
  rw [wide_at]
  by_cases h : j.val < 10000
  · obtain ⟨k, hk⟩ := hs.surj ⟨j.val, h⟩
    exact .inl ⟨k, by rw [if_pos h, hk]⟩
  · exact .inr (if_neg h)

theorem descend_ok (hs : Order v6 r s) (ha : Apart v6 r s) : ∀ (i : ℕ) (hi : i < 21),
    (0 < col v6 r (s ⟨i, by omega⟩).val → descend (wide v6) i (ix2 r 0) = col v6 r (s ⟨i, by omega⟩).val)
    ∧ (col v6 r (s ⟨i, by omega⟩).val ≤ 0 → (descend (wide v6) i (ix2 r 0) : EReal) ≤ 0) := by
  intro i
  induction i with
  | zero =>
    intro hi
    have h0 : descend (wide v6) 0 = rmax (wide v6) := rfl
    have hle : ∀ c : EReal, low ≤ c → col v6 r (s ⟨0, by omega⟩).val ≤ c → (descend (wide v6) 0 (ix2 r 0) : EReal) ≤ c := by
      intro c hc hc0
      rw [h0, rmax_at, Finset.fold_max_le]
      refine ⟨bot_le, fun j _ => ?_⟩
      rcases wide_cases hs j with ⟨k, hk⟩ | hk
      · rw [hk]; exact (hs.anti ⟨0, by omega⟩ k (Nat.zero_le _)).trans hc0
      · rw [hk]; exact hc
    refine ⟨fun hp => le_antisymm (hle _ (low_neg.trans hp).le le_rfl) ?_, fun hn => hle 0 low_neg.le hn⟩
    rw [h0, rmax_at, Finset.le_fold_max]
    exact .inr ⟨⟨(s ⟨0, by omega⟩).val, (s ⟨0, by omega⟩).isLt.trans (by norm_num)⟩, Finset.mem_univ _, (wide_real v6 r _).ge⟩
  | succ i ih =>
    intro hi
    obtain ⟨h1, h2⟩ := ih (by omega)
    obtain ⟨d, hd⟩ : ∃ d : EReal, d = descend (wide v6) i (ix2 r 0) := ⟨_, rfl⟩
    rw [← hd] at h1 h2
    have hle : ∀ c : EReal, low ≤ c → (∀ k : Fin 10000, col v6 r (s k).val < d → col v6 r (s k).val ≤ c) →
        (descend (wide v6) (i + 1) (ix2 r 0) : EReal) ≤ c := by
      intro c hc hk
      rw [descend_succ, below_at, Finset.fold_max_le]
      refine ⟨bot_le, fun j _ => ?_⟩
      rw [← hd]
      by_cases hj : (wide v6 (ix2 r j) : EReal) < d
      · rw [if_pos hj]
        rcases wide_cases hs j with ⟨k, e⟩ | e
        · rw [e]; rw [e] at hj; exact hk k hj
        · rw [e]; exact hc
      · rw [if_neg hj]; exact hc
    have hge : ∀ k : Fin 10000, col v6 r (s k).val < d → col v6 r (s k).val ≤ (descend (wide v6) (i + 1) (ix2 r 0) : EReal) := by
      intro k hk
      rw [descend_succ, below_at, Finset.le_fold_max]
      refine .inr ⟨⟨(s k).val, (s k).isLt.trans (by norm_num)⟩, Finset.mem_univ _, ?_⟩
      rw [← hd, wide_real, if_pos hk]
    have hanti := hs.anti ⟨i, by omega⟩ ⟨i + 1, by omega⟩ (Nat.le_succ i)
    have hnext : ∀ k : Fin 10000, col v6 r (s k).val < col v6 r (s ⟨i, by omega⟩).val → col v6 r (s k).val ≤ col v6 r (s ⟨i + 1, by omega⟩).val := by
      intro k hk
      refine hs.anti _ _ ?_
      by_contra hc
      have hki : k ≤ ⟨i, by omega⟩ := by
        have : ¬ (i + 1 ≤ k.val) := hc
        show k.val ≤ i
        omega
      exact absurd (hs.anti _ _ hki) (not_le.2 hk)
    constructor
    · intro hp
      have hpi := lt_of_lt_of_le hp hanti
      have hdi := h1 hpi
      have hlt : col v6 r (s ⟨i + 1, by omega⟩).val < d := by
        rcases ha i (by omega) with h | h
        · rw [hdi]; exact h
        · exact absurd hp (not_lt.2 h)
      refine le_antisymm (hle _ (low_neg.trans hp).le fun k hk => ?_) (hge _ hlt)
      rw [hdi] at hk
      exact hnext k hk
    · intro hn
      refine hle 0 low_neg.le fun k hk => ?_
      by_cases hpi : 0 < col v6 r (s ⟨i, by omega⟩).val
      · rw [h1 hpi] at hk
        exact (hnext k hk).trans hn
      · exact hk.le.trans (h2 (not_lt.1 hpi))

/-- A downward closed set of places with exactly `c` members is the first `c` places. -/
theorem first_places {n : ℕ} (p : Fin n → Bool) (hp : ∀ i j : Fin n, i ≤ j → p j = true → p i = true) (c : ℕ)
    (hc : ∑ k : Fin n, (p k).toNat = c) (k : Fin n) : p k = true ↔ k.val < c := by
  have hcard : (Finset.univ.filter fun k : Fin n => p k = true).card = c := by
    rw [Finset.card_filter, ← hc]
    exact Finset.sum_congr rfl fun k _ => by cases p k <;> rfl
  constructor
  · intro h
    have h1 : Finset.Iic k ⊆ Finset.univ.filter fun k : Fin n => p k = true := fun i hi =>
      Finset.mem_filter.2 ⟨Finset.mem_univ _, hp i k (Finset.mem_Iic.1 hi) h⟩
    have h2 := Finset.card_le_card h1
    rw [Fin.card_Iic, hcard] at h2
    omega
  · intro h
    by_contra hk
    have h1 : (Finset.univ.filter fun k : Fin n => p k = true) ⊆ Finset.Iio k := fun i hi => by
      rw [Finset.mem_Iio]
      by_contra hc'
      exact hk (hp k i (not_lt.1 hc') (Finset.mem_filter.1 hi).2)
    have h2 := Finset.card_le_card h1
    rw [Fin.card_Iio, hcard] at h2
    omega

/-- The block at the column of a place. -/
theorem out_at (hs : Order v6 r s) (ha : Apart v6 r s) (k : Fin 10000) :
    Frame.out v6 (ix2 r (s k)) = if k.val < 21 then max (col v6 r (s k).val) 0 else (0 : EReal) := by
  by_cases hb : flag (mval v6) (total v6) = 1#1
  · have ho : Frame.out v6 = fallback v6 := if_pos hb
    rw [ho, fallback_at]
    obtain ⟨d, hd⟩ : ∃ d : EReal, d = descend (wide v6) 20 (ix2 r 0) := ⟨_, rfl⟩
    obtain ⟨h1, h2⟩ := descend_ok hs ha 20 (by omega)
    rw [← hd] at h1 h2 ⊢
    by_cases hk : k.val < 21
    · rw [if_pos hk]
      by_cases hp : 0 < col v6 r (s k).val
      · have h3 : d ≤ col v6 r (s k).val := by
          by_cases h20 : 0 < col v6 r (s ⟨20, by omega⟩).val
          · rw [h1 h20]; exact hs.anti k ⟨20, by omega⟩ (by show k.val ≤ 20; omega)
          · exact (h2 (not_lt.1 h20)).trans hp.le
        rw [max_eq_left hp.le, if_pos ⟨h3, hp⟩]
      · rw [if_neg fun h => hp h.2, max_eq_right (not_lt.1 hp)]
    · rw [if_neg hk, if_neg]
      rintro ⟨hd1, hp⟩
      have h21 := hs.anti ⟨21, by omega⟩ k (by show 21 ≤ k.val; omega)
      have h2021 := hs.anti ⟨20, by omega⟩ ⟨21, by omega⟩ (by show 20 ≤ 21; omega)
      rw [h1 (hp.trans_le (h21.trans h2021))] at hd1
      rcases ha 20 (by omega) with h | h
      · exact absurd (hd1.trans h21) (not_le.2 h)
      · exact absurd (hp.trans_le h21) (not_lt.2 h)
  · have ho : Frame.out v6 = Frame.passed v6 := if_neg hb
    obtain ⟨h1, h2, h3⟩ := flag_off v6 hb r
    obtain ⟨v, hv⟩ : ∃ v : EReal, v = mval v6 (ix2 r 0) := ⟨_, rfl⟩
    have hlow : low < v := by rw [hv]; exact low_tiny.trans_le h2
    have h4 := many v6 r (by rw [← hv]; exact hlow)
    rw [ho, passed_at, h3]
    rw [← hv] at h1 h2 h4 ⊢
    rw [lanes_eq v6 v hlow r] at h1 h4
    have h5 : ∑ k : Fin 10000, (ge v (col v6 r (s k).val)).toNat = 21 := by
      have h6 : ∑ k : Fin 10000, (ge v (col v6 r (s k).val)).toNat = ∑ j : Fin 10000, one v6 r v j.val :=
        Function.Bijective.sum_comp ⟨hs.inj, hs.surj⟩ (fun j : Fin 10000 => one v6 r v j.val)
      rw [h6, Fin.sum_univ_eq_sum_range (one v6 r v) 10000]
      omega
    have h7 := first_places (fun k => ge v (col v6 r (s k).val)) (fun i j hij hj => by
      have h8 : v ≤ col v6 r (s j).val := of_decide_eq_true hj
      exact decide_eq_true (h8.trans (hs.anti i j hij))) 21 h5 k
    have h9 : v ≤ col v6 r (s k).val ↔ k.val < 21 := by
      rw [← h7]; exact decide_eq_true_iff.symm
    by_cases hk : k.val < 21
    · rw [if_pos hk, if_pos (h9.2 hk), max_eq_left ((tiny_pos.le.trans h2).trans (h9.2 hk))]
    · rw [if_neg hk, if_neg fun h => hk (h9.1 h)]

end Cert.KernelIdeal.Lane

end
-- ==== Proof.Sorts.lean ====
/- The greatest entries of each row of a matrix, in decreasing order, read at an index. -/
module

public import Idealize.ShloMosaic.Lib.SortFacts
public import Idealize.ShloMosaic.Lib.Pointwise

@[expose] public section

noncomputable section

namespace Cert.Sorts

open Idealize.ShloMosaic

variable {A N K : ℕ}

/-- The first column sorts strictly before the second. -/
def before (x : FVec Ideal ⟨2, ![A, N]⟩ .f32) (r : Fin A) (k k' : Fin N) : Bool :=
  decide ((x (ix2 r k') : EReal) < x (ix2 r k))

/-- The column at each place of row `r`. -/
def ord (x : FVec Ideal ⟨2, ![A, N]⟩ .f32) (r : Fin A) : Fin N → Fin N := sortedFrom (before x r)

theorem ord_inj (x : FVec Ideal ⟨2, ![A, N]⟩ .f32) (r : Fin A) : Function.Injective (ord x r) := sortedFrom_injective _

theorem ord_surj (x : FVec Ideal ⟨2, ![A, N]⟩ .f32) (r : Fin A) : Function.Surjective (ord x r) := sortedFrom_surjective _

theorem ord_anti (x : FVec Ideal ⟨2, ![A, N]⟩ .f32) (r : Fin A) (i j : Fin N) (h : i ≤ j) :
    (x (ix2 r (ord x r j)) : EReal) ≤ x (ix2 r (ord x r i)) := by
  rcases h.eq_or_lt with rfl | h
  · exact le_rfl
  · have := sortedFrom_noInversion (before x r) (before x r)
      (fun a b hab => decide_eq_false (not_lt.2 (of_decide_eq_true hab).le))
      (fun a b hab => hab)
      (fun a b c hab hbc => decide_eq_false (not_lt.2 ((not_lt.1 (of_decide_eq_false hab)).trans (not_lt.1 (of_decide_eq_false hbc))))) i j h
    exact not_lt.1 (of_decide_eq_false this)

theorem along_at (r : Fin A) (k k' : Fin N) (h : 1 < (⟨2, ![A, N]⟩ : Shape).rank) :
    Shape.Idx.along (s := ⟨2, ![A, N]⟩) (ix2 r k') ⟨1, h⟩ k = ix2 r k := by
  funext a
  match a with
  | ⟨0, _⟩ => exact Function.update_of_ne (by intro e; exact absurd (congrArg Fin.val e) (by decide : (0 : ℕ) ≠ 1)) _ _
  | ⟨1, _⟩ => exact Function.update_self ..

theorem slice_at {α : Type} (y : (⟨2, ![A, N]⟩ : Shape).Idx → α) (h : (⟨2, ![A, N]⟩ : Shape).Slices (fun _ => 0) ⟨2, ![A, K]⟩) (r : Fin A) (k : Fin K)
    (hk : k.val < N) : extractStridedSlice ⟨2, ![A, K]⟩ (fun _ => 0) y h (ix2 r k) = y (ix2 r ⟨k.val, hk⟩) := by
  unfold extractStridedSlice
  refine congrArg y (funext fun a => ?_)
  match a with
  | ⟨0, _⟩ => exact Fin.ext (Nat.zero_add _)
  | ⟨1, _⟩ => exact Fin.ext (Nat.zero_add _)

theorem sort_at {β : Type} (x : FVec Ideal ⟨2, ![A, N]⟩ .f32) (y : (⟨2, ![A, N]⟩ : Shape).Idx → β) (r : Fin A) (k : Fin N) :
    (Host.sort2 ⟨2, ![A, N]⟩ 1 (fun l q => FloatOps.cmpfTotal (F := Ideal) (φ := .f32) .gt l.1 q.1) x y).1 (ix2 r k) = x (ix2 r (ord x r k))
    ∧ (Host.sort2 ⟨2, ![A, N]⟩ 1 (fun l q => FloatOps.cmpfTotal (F := Ideal) (φ := .f32) .gt l.1 q.1) x y).2 (ix2 r k) = y (ix2 r (ord x r k)) := by
  have hb : (fun a b : Fin N => FloatOps.cmpfTotal (F := Ideal) (φ := .f32) .gt (x (Shape.Idx.along (s := ⟨2, ![A, N]⟩) (ix2 r k) ⟨1, Nat.one_lt_two⟩ a))
      (x (Shape.Idx.along (s := ⟨2, ![A, N]⟩) (ix2 r k) ⟨1, Nat.one_lt_two⟩ b)) == 1#1) = before x r := by
    funext a b
    rw [along_at, along_at]
    show (BitVec.ofBool (decide ((x (ix2 r b) : EReal) < x (ix2 r a))) == 1#1) = decide _
    by_cases h : (x (ix2 r b) : EReal) < x (ix2 r a) <;> simp [h]
  unfold Host.sort2
  rw [dif_pos (Nat.one_lt_two : 1 < (⟨2, ![A, N]⟩ : Shape).rank)]
  constructor
  · refine (congrArg x (along_at r _ k Nat.one_lt_two)).trans ?_
    exact congrArg (fun f : Fin N → Fin N → Bool => x (ix2 r (sortedFrom f k))) hb
  · refine (congrArg y (along_at r _ k Nat.one_lt_two)).trans ?_
    exact congrArg (fun f : Fin N → Fin N → Bool => y (ix2 r (sortedFrom f k))) hb

/-- The values kept, -/
theorem top_val (x : FVec Ideal ⟨2, ![A, N]⟩ .f32) (h : (⟨2, ![A, N]⟩ : Shape).Slices (fun _ => 0) ⟨2, ![A, K]⟩) (r : Fin A) (k : Fin K) (hk : k.val < N) :
    (Host.topK ⟨2, ![A, K]⟩ 1 (FloatOps.cmpfTotal (F := Ideal) (φ := .f32) .gt) x h).1 (ix2 r k) = x (ix2 r (ord x r ⟨k.val, hk⟩)) := by
  unfold Host.topK
  dsimp only
  rw [slice_at _ h r k hk]
  exact (sort_at x _ r _).1

/-- and their columns. -/
theorem top_col (x : FVec Ideal ⟨2, ![A, N]⟩ .f32) (h : (⟨2, ![A, N]⟩ : Shape).Slices (fun _ => 0) ⟨2, ![A, K]⟩) (r : Fin A) (k : Fin K) (hk : k.val < N) :
    (Host.topK ⟨2, ![A, K]⟩ 1 (FloatOps.cmpfTotal (F := Ideal) (φ := .f32) .gt) x h).2 (ix2 r k) = BitVec.ofNat 32 (ord x r ⟨k.val, hk⟩).val := by
  unfold Host.topK
  dsimp only
  rw [slice_at _ h r k hk, (sort_at x _ r _).2]
  exact dif_pos (Nat.one_lt_two : 1 < (⟨2, ![A, N]⟩ : Shape).rank)

end Cert.Sorts

end
-- ==== Proof.Mask.lean ====
/- The reference's mask and the precondition, read by place in each row's decreasing order. -/
module

public import proofs.«01_k».proof.Proof.RefVal
public import proofs.«01_k».proof.Proof.Sorts
public import Idealize.ShloMosaic.Lib.Routing.OpsSet
public import Idealize.ShloMosaic.Lib.ReduceAll

@[expose] public section

noncomputable section

namespace Cert.ReferenceIdeal.Value

open Cert.ReferenceIdeal Cert.ReferenceIdeal.Gen Idealize.ShloMosaic Cert.Sorts

theorem small_word (n : ℕ) (h : n < 10000) : (BitVec.ofNat 32 n).toNat < 2 ^ (32 - 1) := by
  rw [BitVec.toNat_ofNat, Nat.mod_eq_of_lt (by omega)]; omega

theorem rows_at (r : Fin 10000) : rows (ix2 r 0) = BitVec.ofNat 32 r.val := by
  have h0 : rows (ix2 r 0) = Scalar.select (IntOp.cmpi .slt (BitVec.ofNat 32 r.val) 0#32) (IntOp.addi (BitVec.ofNat 32 r.val) 10000#32) (BitVec.ofNat 32 r.val) := by
    unfold rows
    pointwise
  rw [h0]
  exact Routing.wrap_of_lt _ _ (small_word _ r.isLt)

theorem wrapped_at (i : IVec S10000x21 32) (r : Fin 10000) (k : Fin 21) (n : ℕ) (hn : n < 10000) (h : i (ix2 r k) = BitVec.ofNat 32 n) :
    wrapped i (ix2 r k) = BitVec.ofNat 32 n := by
  have h0 : wrapped i (ix2 r k) = Scalar.select (IntOp.cmpi .slt (i (ix2 r k)) 0#32) (IntOp.addi (i (ix2 r k)) 10000#32) (i (ix2 r k)) := by
    unfold wrapped
    pointwise
  rw [h0, h]
  exact Routing.wrap_of_lt _ _ (small_word _ hn)

theorem pairs_row (i : IVec S10000x21 32) (r : Fin 10000) (k : Fin 21) : pairs i (ix3 r k 0) = rows (ix2 r 0) := by
  unfold pairs
  obtain ⟨w, hw⟩ : ∃ w : IVec S10000x21 32, w = wrapped i := ⟨_, rfl⟩
  obtain ⟨q, hq⟩ : ∃ q : IVec S10000x1 32, q = rows := ⟨_, rfl⟩
  rw [← hw, ← hq]
  pointwise

theorem pairs_col (i : IVec S10000x21 32) (r : Fin 10000) (k : Fin 21) : pairs i (ix3 r k 1) = wrapped i (ix2 r k) := by
  unfold pairs
  obtain ⟨w, hw⟩ : ∃ w : IVec S10000x21 32, w = wrapped i := ⟨_, rfl⟩
  obtain ⟨q, hq⟩ : ∃ q : IVec S10000x1 32, q = rows := ⟨_, rfl⟩
  rw [← hw, ← hq]
  pointwise

theorem word_int (n : ℕ) (h : n < 10000) : (BitVec.ofNat 32 n).toInt = (n : ℤ) :=
  WordCmp.toInt_ofNat_of_lt (by omega)

/-- Where the update of row `a` and place `k` lands. -/
theorem lands (x : FVec Ideal S10000x10000 .f32) (a : Fin 10000) (k : Fin 21) (r c : Fin 10000) :
    scatter_S10000x10000_S10000x21x2_S10000x21_n_01_01_2.resultIdx? (ix2 a k) (pairs (cols x)) = some (ix2 r c)
      ↔ a = r ∧ ord x a ⟨k.val, k.isLt.trans (by norm_num)⟩ = c := by
  have h := Routing.scatter_lands2 scatter_S10000x10000_S10000x21x2_S10000x21_n_01_01_2 rfl rfl rfl (pairs (cols x)) a k r c
  have h1 : pairs (cols x) (ix3 a k 0) = BitVec.ofNat 32 a.val := (pairs_row _ a k).trans (rows_at a)
  have h2 : pairs (cols x) (ix3 a k 1) = BitVec.ofNat 32 (ord x a ⟨k.val, k.isLt.trans (by norm_num)⟩).val :=
    (pairs_col _ a k).trans (wrapped_at _ a k _ (Fin.isLt _) (top_col x _ a k (k.isLt.trans (by norm_num))))
  have h3 : (pairs (cols x) (ix3 a k 0)).toInt = (a.val : ℤ) := by rw [h1]; exact word_int _ a.isLt
  have h4 : (pairs (cols x) (ix3 a k 1)).toInt = ((ord x a ⟨k.val, k.isLt.trans (by norm_num)⟩).val : ℤ) := by rw [h2]; exact word_int _ (Fin.isLt _)
  refine (Iff.trans h ?_)
  constructor
  · rintro ⟨e1, e2⟩
    exact ⟨Fin.ext (Int.ofNat.inj (h3.symm.trans e1)), Fin.ext (Int.ofNat.inj (h4.symm.trans e2))⟩
  · rintro ⟨e1, e2⟩
    subst e1; subst e2
    exact ⟨h3, h4⟩

theorem mask_at (x : FVec Ideal S10000x10000 .f32) (r k : Fin 10000) :
    mask (cols x) (ix2 r (ord x r k)) = if k.val < 21 then (1 : EReal) else 0 := by
  unfold mask
  by_cases hk : k.val < 21
  · rw [if_pos hk]
    have hl := (lands x r ⟨k.val, hk⟩ r (ord x r k)).2 ⟨rfl, rfl⟩
    refine Routing.scatter_set_hit _ _ _ _ _ _ (fun q _ => ?_) _ hl
    exact Ideal.ofBits_one_f32
  · rw [if_neg hk]
    refine (Routing.scatter_set_miss _ _ _ _ _ fun q hq => ?_).trans Ideal.ofBits_zero_f32
    rw [eq_ix2 q] at hq
    have h := (lands x (q 0) (q 1) r (ord x r k)).1 hq
    obtain ⟨e1, e2⟩ := h
    rw [e1] at e2
    have e3 := congrArg Fin.val (ord_inj x r e2)
    have e4 : (q 1).val < 21 := (q 1).isLt
    exact hk (e3 ▸ e4)

/-- The reference at the column of a place. -/
theorem kept_at (x : FVec Ideal S10000x10000 .f32) (r k : Fin 10000) :
    kept x (ix2 r (ord x r k)) = if k.val < 21 then max (x (ix2 r (ord x r k)) : EReal) 0 else 0 := by
  have h0 : kept x (ix2 r (ord x r k)) = max ((x (ix2 r (ord x r k)) : EReal) * mask (cols x) (ix2 r (ord x r k))) (Ideal.ofBits .f32 0x00000000#32) := rfl
  rw [h0, mask_at, Ideal.ofBits_zero_f32]
  by_cases hk : k.val < 21
  · rw [if_pos hk, if_pos hk, mul_one]
  · rw [if_neg hk, if_neg hk, mul_zero, max_self]

theorem apart_at (v : FVec Ideal Pre_distinct_neighbours.S10000x22 .f32) (r : Fin 10000) (k : Fin 21) (h : apart v (ix2 r k) = 1#1) :
    (v (ix2 r ⟨k.val + 1, by omega⟩) : EReal) < v (ix2 r ⟨k.val, by omega⟩) ∨ (v (ix2 r ⟨k.val + 1, by omega⟩) : EReal) ≤ 0 := by
  have h1 : ∀ j, apart v j = (BitVec.ofBool (decide ((extractStridedSlice S10000x21 ![0, 1] v Pre_distinct_neighbours.sides.slices_S10000x22_S10000x21_0_1 j : EReal)
        < extractStridedSlice S10000x21 ![0, 0] v Pre_distinct_neighbours.sides.slices_S10000x22_S10000x21_0_0 j))
      ||| BitVec.ofBool (decide ((extractStridedSlice S10000x21 ![0, 1] v Pre_distinct_neighbours.sides.slices_S10000x22_S10000x21_0_1 j : EReal)
        ≤ Ideal.ofBits .f32 0x00000000#32))) := fun j => rfl
  have h2 : extractStridedSlice S10000x21 ![0, 1] v Pre_distinct_neighbours.sides.slices_S10000x22_S10000x21_0_1 (ix2 r k) = v (ix2 r ⟨k.val + 1, by omega⟩) := by
    unfold extractStridedSlice
    refine congrArg v (funext fun a => ?_)
    match a with
    | ⟨0, _⟩ => exact Fin.ext (Nat.zero_add _)
    | ⟨1, _⟩ => exact Fin.ext (Nat.add_comm _ _)
  have h3 : extractStridedSlice S10000x21 ![0, 0] v Pre_distinct_neighbours.sides.slices_S10000x22_S10000x21_0_0 (ix2 r k) = v (ix2 r ⟨k.val, by omega⟩) := by
    unfold extractStridedSlice
    refine congrArg v (funext fun a => ?_)
    match a with
    | ⟨0, _⟩ => exact Fin.ext (Nat.zero_add _)
    | ⟨1, _⟩ => exact Fin.ext (Nat.zero_add _)
  rw [h1, h2, h3, Ideal.ofBits_zero_f32, BitVec.ofBool_or_ofBool, WordCmp.ofBool_eq_one_iff, Bool.or_eq_true, decide_eq_true_iff, decide_eq_true_iff] at h
  exact h

/-- The precondition's words: the first twenty-two of each row differ as long as they are positive. -/
theorem pre_apart (x : FVec Ideal S10000x10000 .f32)
    (h : Host.reduce IntOp.andi (apart (vals x)) (constantI S_ 1 1#1) Pre_distinct_neighbours.sides.reducesTo_S10000x21_S_d0_1 Pre_distinct_neighbours.sides.h_S_ = fun _ => 1#1)
    (r : Fin 10000) (k : ℕ) (hk : k < 21) :
    (x (ix2 r (ord x r ⟨k + 1, by omega⟩)) : EReal) < x (ix2 r (ord x r ⟨k, by omega⟩)) ∨ (x (ix2 r (ord x r ⟨k + 1, by omega⟩)) : EReal) ≤ 0 := by
  haveI : Subsingleton S_.Idx := ⟨fun a b => funext fun i => i.elim0⟩
  have h1 := Host.reduce_andi_all _ _ _ _ (fun i => i.elim0) (congrFun h _) (ix2 r ⟨k, hk⟩)
  have h2 := apart_at (vals x) r ⟨k, hk⟩ h1
  have h3 : ∀ j : Fin 22, vals x (ix2 r j) = x (ix2 r (ord x r ⟨j.val, j.isLt.trans (by norm_num)⟩)) := fun j => top_val x _ r j _
  rw [h3, h3] at h2
  exact h2

end Cert.ReferenceIdeal.Value

end
-- ==== Proof.Value.lean ====
/- The value claim. -/
module

public import proofs.«01_k».proof.Defs
public import proofs.«01_k».proof.Proof.Blocks
public import proofs.«01_k».proof.Proof.Row
public import proofs.«01_k».proof.Proof.Mask
public import proofs.«01_k».proof.Proof.RefRun

@[expose] public section

noncomputable section

namespace Cert.KernelIdeal.Match

open Idealize.ShloMosaic Idealize.ShloMosaic.TcCoe Cert.KernelIdeal.Gen Cert.KernelIdeal.Net Cert.KernelIdeal.Frame
open Cert.Sorts

variable (m : (ℓ : Loc nD τ sig) → Buf (Elt Ideal) ℓ)

/-- Neighbouring sorted products are apart, or not above zero. -/
abbrev Distinct (x : FVec Ideal ReferenceIdeal.S10000x10000 .f32) : Prop :=
  ∀ (r : Fin 10000) (k : ℕ) (hk : k < 21),
    (x (ix2 r (ord x r ⟨k + 1, by omega⟩)) : EReal) < x (ix2 r (ord x r ⟨k, by omega⟩)) ∨ (x (ix2 r (ord x r ⟨k + 1, by omega⟩)) : EReal) ≤ 0

/-- A strip whose columns are a row of products keeps what the reference keeps. -/
theorem strip_kept (v6 : FVec Ideal S200x10112 .f32) (x : FVec Ideal ReferenceIdeal.S10000x10000 .f32) (r : Fin 200) (R : Fin 10000)
    (hx : ∀ j : Fin 10000, v6 (ix2 r ⟨j.val, Nat.lt_of_lt_of_le j.isLt (by decide)⟩) = x (ix2 R j)) (hd : Distinct x) (j : Fin 10000) :
    Frame.out v6 (ix2 r j) = ReferenceIdeal.Value.kept x (ix2 R j) := by
  have hc : ∀ j : Fin 10000, Lane.col v6 r j.val = x (ix2 R j) := fun j =>
    (dif_pos (Nat.lt_of_lt_of_le j.isLt (by decide))).trans (hx j)
  have ho : Lane.Order v6 r (ord x R) :=
    ⟨ord_inj x R, ord_surj x R, fun i j h => by rw [hc, hc]; exact ord_anti x R i j h⟩
  have ha : Lane.Apart v6 r (ord x R) := fun k h => by rw [hc, hc]; exact hd R k h
  obtain ⟨k, rfl⟩ := ord_surj x R j
  rw [Lane.out_at ho ha k, ReferenceIdeal.Value.kept_at, hc]

theorem index1_2 : ∀ t : Fin grid1.N, win1_2.index t = ![t.val, 0] := by decide +kernel

theorem place1_2 (t : Fin cfg1.N) (y : ((cfg1.win 2).xblock (cfg1.grid.coords t)).Idx) (r : Fin 200) (j R : Fin 10000)
    (hr : (y 0).val = r.val) (hj : (y 1).val = j.val) (hR : R.val = 200 * t.val + r.val) :
    ((cfg1.win 2).blk t).view.emb y = ix2 R j := by
  blk_ext [index1_2, hr, hj, hR]

theorem inj1_2 (t : Fin cfg1.N) (y : ((cfg1.win 2).xblock (cfg1.grid.coords t)).Idx) (r : Fin 200) (j : Fin 10000)
    (hr : (y 0).val = r.val) (hj : (y 1).val = j.val) : (cfg1.win 2).xinj (cfg1.grid.coords t) y = (ix2 r j : S200x10000.Idx) := by
  funext a
  apply Fin.ext
  fin_cases a
  · exact hr
  · exact hj

theorem after1_2 (c : Dev nD) (t : Fin cfg1.N) : (dat1 (U2 m) c).after 2 t = Frame.out (F := Ideal) (k1_pay6 (F := Ideal) (in1 (U2 m) c 0 t) (in1 (U2 m) c 1 t)) := by
  have h : ∀ V : Dev nD → Valuation τ sig (Elt Ideal), (dat1 V c).after 2 t = Frame.out (F := Ideal) (k1_pay6 (F := Ideal) (in1 V c 0 t) (in1 V c 1 t)) := fun V => rfl
  exact h _

theorem covers1_2 : (win1_2 : Pipeline.Window sig grid1).Covers := by decide +kernel

theorem split1_2 (t : Fin cfg1.N) (y : ((cfg1.win 2).xblock (cfg1.grid.coords t)).Idx) :
    ∃ (r : Fin 200) (j R : Fin 10000), (y 0).val = r.val ∧ (y 1).val = j.val ∧ R.val = 200 * t.val + r.val := by
  have h0 : (y 0).val < 200 := (y 0).isLt
  have h1 : (y 1).val < 10000 := (y 1).isLt
  have ht : t.val < 50 := t.isLt
  exact ⟨⟨(y 0).val, h0⟩, ⟨(y 1).val, h1⟩, ⟨200 * t.val + (y 0).val, by omega⟩, rfl, rfl, rfl⟩

theorem block_eq (c : Dev nD) (hd : Distinct (prods m c)) (t : Fin cfg1.N) (r : Fin 200) (j R : Fin 10000) (hR : R.val = 200 * t.val + r.val) :
    (dat1 (U2 m) c).after 2 t (ix2 r j : S200x10000.Idx) = ReferenceIdeal.Value.kept (prods m c) (ix2 R j) := by
  rw [after1_2]
  exact strip_kept _ (prods m c) r R (fun j => strip_at m c t r R j hR) hd j

theorem sel3_eq (c : Dev nD) (hd : Distinct (prods m c)) : sel3 m c = ReferenceIdeal.Value.kept (prods m c) := by
  refine (dat1 (U2 m) c).arrAt_eq_of_covers 2 _ covers1_2 fun t hf y => ?_
  obtain ⟨r, j, R, hr, hj, hR⟩ := split1_2 t y
  rw [place1_2 t y r j R hr hj hR, inj1_2 t y r j hr hj]
  exact (cast_eq _ _).trans (block_eq m c hd t r j R hR)

end Cert.KernelIdeal.Match

end
-- ==== Proof.Agree.lean ====
/- The kernel and the reference end with the same result. -/
module

public import proofs.«01_k».proof.Defs
public import proofs.«01_k».proof.Proof.Value
public import proofs.«01_k».proof.Proof.Twin
public import proofs.«01_k».proof.Proof.RefRun

@[expose] public section

noncomputable section

namespace Cert.Proof

open Idealize.ShloMosaic Idealize.SL.Sem

/-- Where the products are distinct the reference's result is the kernel's. -/
theorem result_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (hp : Pre_distinct_neighbours.fn (F := Ideal) (m ((c.tc : Thread KernelIdeal.nD KernelIdeal.τ).loc KernelIdeal.main_arg0))
      (m ((c.tc : Thread KernelIdeal.nD KernelIdeal.τ).loc KernelIdeal.main_arg1)) (m ((c.tc : Thread KernelIdeal.nD KernelIdeal.τ).loc KernelIdeal.main_arg2))
      (m ((c.tc : Thread KernelIdeal.nD KernelIdeal.τ).loc KernelIdeal.main_arg3)) (m ((c.tc : Thread KernelIdeal.nD KernelIdeal.τ).loc KernelIdeal.main_arg4)) = fun _ => 1#1)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4)) :
    ReferenceIdeal.Value.res_main_v37 (F := Ideal) m' c = KernelIdeal.Frame.sel3 m c := by
  rw [ReferenceIdeal.Value.pre_eq] at hp
  have hd : KernelIdeal.Match.Distinct (KernelIdeal.Match.prods m c) := ReferenceIdeal.Value.pre_apart _ hp
  rw [KernelIdeal.Match.sel3_eq m c hd, ReferenceIdeal.Value.res_eq, h0, h1, h2, h3, h4]
  rfl

/-- The value claim. -/
theorem agree : Cert.algebraic_KernelIdeal_ReferenceIdeal_pre_distinct_neighbours := fun m g m' g' hp ha => by
  refine ⟨KernelIdeal.Frame.sel3 m, (θ_run _ _ _).mono (fun _ h c => h.1 c) (KernelIdeal.Frame.run m g),
    (θ_run _ _ _).mono (fun r h c => ?_) (ReferenceIdeal.Value.run (F := Ideal) m' g')⟩
  obtain ⟨h0, h1, h2, h3, h4⟩ := ha c
  exact ⟨(h c).1.trans (result_eq m m' c (hp c) h0 h1 h2 h3 h4), (h c).2⟩

end Cert.Proof

end
-- ==== Proof.lean ====
/- The certificate: the frames, the preservation and the value claim. -/
module

public import proofs.«01_k».proof.Defs
public import proofs.«01_k».proof.Proof.Twin
public import proofs.«01_k».proof.Proof.RefRun
public import proofs.«01_k».proof.Proof.PreFacts
public import proofs.«01_k».proof.Proof.Agree

@[expose] public section

noncomputable section

namespace Cert.Proof

theorem claim : Cert.Claim :=
  ⟨Cert.Kernel.Gen.facts, Cert.KernelIdeal.Gen.facts, Cert.ReferenceIdeal.Gen.facts, Cert.Pre_distinct_neighbours.sides,
    frame_kernel, frame_ideal, (fun m g _ => frame_ideal m g trivial), frame_reference, (fun m g _ => frame_reference m g trivial), trivial,
    agree⟩

end Cert.Proof

end
